-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S1048576x19 : Shape := ⟨2, ![1048576, 19]⟩
abbrev S1048576 : Shape := ⟨1, ![1048576]⟩
abbrev S_ : Shape := ⟨0, ![]⟩
abbrev S1048576x1 : Shape := ⟨2, ![1048576, 1]⟩
abbrev S19x1048576 : Shape := ⟨2, ![19, 1048576]⟩
abbrev S1x1048576 : Shape := ⟨2, ![1, 1048576]⟩
abbrev S1048576x2 : Shape := ⟨2, ![1048576, 2]⟩
abbrev S1 : Shape := ⟨1, ![1]⟩

class Facts : Prop where
  bcast_S_S1048576 : S_.BroadcastsInDim S1048576 (![] : Fin 0 → Fin S1048576.rank)
  reducesTo_S1048576x19_S1048576_d1 : S1048576x19.ReducesTo [1] S1048576
  h_S_ : 0 < S_.numel
  natLt_1_32 : 1 < 32
  bcast_S1048576_S1048576x1_0 : S1048576.BroadcastsInDim S1048576x1 (![0] : Fin 1 → Fin S1048576x1.rank)
  bcast_S1048576x1_S1048576x19_0_1 : S1048576x1.BroadcastsInDim S1048576x19 (![0, 1] : Fin 2 → Fin S1048576x19.rank)
  transposes_S1048576x19_S19x1048576_1_0 : S1048576x19.Transposes [1, 0] S19x1048576
  bcast_S1048576_S1x1048576_1 : S1048576.BroadcastsInDim S1x1048576 (![1] : Fin 1 → Fin S1x1048576.rank)
  bcast_S1x1048576_S19x1048576_0_1 : S1x1048576.BroadcastsInDim S19x1048576 (![0, 1] : Fin 2 → Fin S19x1048576.rank)
  bcast_S_S19x1048576 : S_.BroadcastsInDim S19x1048576 (![] : Fin 0 → Fin S19x1048576.rank)
  concatenates_S1048576x1_S1048576x1_S1048576x2_d1 : Shape.Concatenates [S1048576x1, S1048576x1] S1048576x2 1
  slices_S1048576_S1_99999 : S1048576.Slices ![99999] S1
  shapeCasts_S1_S_ : S1.ShapeCasts S_
  sliceFits_S1048576_S1 : S1048576.Slices (fun _ => 0) S1
  gather_S19x1048576_S1048576x2_S1048576_n_01_n_n_01_1_11_wf : GatherDims.WF S19x1048576 S1048576x2 S1048576 [] [0, 1] [] [0, 1] [] 1 ![1, 1]

variable [Facts]

variable {F : FTy → Type} [FloatOps F]
def gather_S19x1048576_S1048576x2_S1048576_n_01_n_n_01_1_11 : GatherDims S19x1048576 S1048576x2 S1048576 where
  offsetDims := []
  collapsedSliceDims := [0, 1]
  operandBatchingDims := []
  startIndicesBatchingDims := []
  startIndexMap := [0, 1]
  indexVectorDim := 1
  sliceSizes := ![1, 1]
  wf := gather_S19x1048576_S1048576x2_S1048576_n_01_n_n_01_1_11_wf
def comparator_f32_i32_d0 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10

def fn_where {F : FTy → Type} [FloatOps F] (arg0 : IVec S1x1048576 1) (arg1 : FVec F S19x1048576 .f32) (arg2 : FVec F S_ .f32) : FVec F S19x1048576 .f32 :=
  let v0 : FVec F S_ .f32 := id arg2
  let v1 : IVec S19x1048576 1 := broadcastInDim S19x1048576 ![0, 1] bcast_S1x1048576_S19x1048576_0_1 arg0
  let v2 : FVec F S19x1048576 .f32 := broadcastInDim S19x1048576 ![] bcast_S_S19x1048576 v0
  let v3 : FVec F S19x1048576 .f32 := select v1 arg1 v2
  v3

def fn_argsort {F : FTy → Type} [FloatOps F] (arg0 : FVec F S1048576 .f32) : IVec S1048576 32 :=
  let v0 : IVec S1048576 32 := iotaInDim S1048576 32 0
  let v1_0 : FVec F S1048576 .f32 := (fun x y => (Host.sort2 S1048576 0 comparator_f32_i32_d0 x y).1) arg0 v0
  let v1_1 : IVec S1048576 32 := (fun x y => (Host.sort2 S1048576 0 comparator_f32_i32_d0 x y).2) arg0 v0
  v1_1

def fn_part3 {F : FTy → Type} [FloatOps F] (main_v43 : FVec F S1048576 .f32) (main_v51 : FVec F S_ .f32) (main_v52 : IVec S1048576 1) (main_v53 : IVec S_ 1) (main_v54 : FVec F S1048576 .f32) : IVec S1048576 1 :=
  let main_v55 : IVec S1048576 1 := cmpf .ole main_v43 main_v54
  let main_v56 : IVec S1048576 1 := broadcastInDim S1048576 ![] bcast_S_S1048576 main_v53
  let main_v57 : IVec S1048576 1 := ori main_v56 main_v55
  let main_cst_15 : FVec F S_ .f32 := constant S_ .f32 0x33800000#32
  let main_v58 : FVec F S_ .f32 := addf main_v51 main_cst_15
  let main_v59 : FVec F S1048576 .f32 := broadcastInDim S1048576 ![] bcast_S_S1048576 main_v58
  let main_v60 : IVec S1048576 1 := cmpf .oge main_v43 main_v59
  let main_v61 : IVec S1048576 1 := ori main_v57 main_v60
  let main_v62 : IVec S1048576 1 := andi main_v52 main_v61
  main_v62

def fn_part2 {F : FTy → Type} [FloatOps F] (main_v4 : IVec S1048576 1) (main_v10 : IVec S1048576 1) (main_v28 : FVec F S19x1048576 .f32) (main_v29 : IVec S1048576 32) (main_v34 : IVec S1048576 32) (main_c_10 : IVec S_ 32) : IVec S1048576 1 :=
  let main_v35 : IVec S1048576 32 := broadcastInDim S1048576 ![] bcast_S_S1048576 main_c_10
  let main_v36 : IVec S1048576 1 := cmpi .slt main_v29 main_v35
  let main_c_11 : IVec S_ 32 := constantI S_ 32 1048576#32
  let main_v37 : IVec S1048576 32 := broadcastInDim S1048576 ![] bcast_S_S1048576 main_c_11
  let main_v38 : IVec S1048576 32 := addi main_v29 main_v37
  let main_v39 : IVec S1048576 32 := select main_v36 main_v38 main_v29
  let main_v40 : IVec S1048576x1 32 := broadcastInDim S1048576x1 ![0] bcast_S1048576_S1048576x1_0 main_v34
  let main_v41 : IVec S1048576x1 32 := broadcastInDim S1048576x1 ![0] bcast_S1048576_S1048576x1_0 main_v39
  let main_v42 : IVec S1048576x2 32 := (fun a b => concatenate S1048576x2 1 [⟨S1048576x1, a⟩, ⟨S1048576x1, b⟩] concatenates_S1048576x1_S1048576x1_S1048576x2_d1) main_v40 main_v41
  let main_v43 : FVec F S1048576 .f32 := (fun x i => Host.gather gather_S19x1048576_S1048576x2_S1048576_n_01_n_n_01_1_11 x i) main_v28 main_v42
  let main_v44 : IVec S1048576 32 := fn_argsort (F := F) main_v43
  let main_v45 : IVec S1 32 := (extractStridedSlice S1 ![99999] · slices_S1048576_S1_99999) main_v44
  let main_v46 : IVec S_ 32 := shapeCast S_ main_v45 shapeCasts_S1_S_
  let main_c_12 : IVec S_ 32 := constantI S_ 32 0#32
  let main_v47 : IVec S_ 1 := cmpi .slt main_v46 main_c_12
  let main_c_13 : IVec S_ 32 := constantI S_ 32 1048576#32
  let main_v48 : IVec S_ 32 := addi main_v46 main_c_13
  let main_v49 : IVec S_ 32 := select main_v47 main_v48 main_v46
  let main_v50 : FVec F S1 .f32 := (fun x i => Host.dynamicSlice S1 x (fun k => (i k (Shape.Idx.first h_S_)).toInt) sliceFits_S1048576_S1) main_v43 (![main_v49] : Fin 1 → IVec S_ 32)
  let main_v51 : FVec F S_ .f32 := shapeCast S_ main_v50 shapeCasts_S1_S_
  let main_v52 : IVec S1048576 1 := andi main_v4 main_v10
  let main_cst_14 : FVec F S_ .f32 := constant S_ .f32 0x3F333333#32
  let main_v53 : IVec S_ 1 := cmpf .ole main_v51 main_cst_14
  let main_v54 : FVec F S1048576 .f32 := broadcastInDim S1048576 ![] bcast_S_S1048576 main_v51
  fn_part3 (F := F) main_v43 main_v51 main_v52 main_v53 main_v54

def fn_part1 {F : FTy → Type} [FloatOps F] (main_arg0 : FVec F S1048576x19 .f32) (main_v4 : IVec S1048576 1) (main_v10 : IVec S1048576 1) (main_v12 : IVec S1048576 1) (main_v14 : IVec S1048576 32) (main_v15 : FVec F S1048576 .f32) (main_cst_5 : FVec F S_ .f32) : IVec S1048576 1 :=
  let main_v16 : FVec F S1048576 .f32 := broadcastInDim S1048576 ![] bcast_S_S1048576 main_cst_5
  let main_v17 : FVec F S1048576 .f32 := maximumf main_v16 main_v15
  let main_v18 : FVec F S1048576x1 .f32 := broadcastInDim S1048576x1 ![0] bcast_S1048576_S1048576x1_0 main_v17
  let main_v19 : FVec F S1048576x19 .f32 := broadcastInDim S1048576x19 ![0, 1] bcast_S1048576x1_S1048576x19_0_1 main_v18
  let main_v20 : FVec F S1048576x19 .f32 := subf main_arg0 main_v19
  let main_v21 : FVec F S1048576x19 .f32 := Host.exp main_v20
  let main_cst_6 : FVec F S_ .f32 := constant S_ .f32 0x00000000#32
  let main_v22 : FVec F S1048576 .f32 := (fun x v => Host.reduceAdd x v reducesTo_S1048576x19_S1048576_d1 h_S_) main_v21 main_cst_6
  let main_v23 : FVec F S1048576x1 .f32 := broadcastInDim S1048576x1 ![0] bcast_S1048576_S1048576x1_0 main_v22
  let main_v24 : FVec F S1048576x19 .f32 := broadcastInDim S1048576x19 ![0, 1] bcast_S1048576x1_S1048576x19_0_1 main_v23
  let main_v25 : FVec F S1048576x19 .f32 := Host.divf main_v21 main_v24
  let main_v26 : FVec F S19x1048576 .f32 := (transpose S19x1048576 [1, 0] · transposes_S1048576x19_S19x1048576_1_0) main_v25
  let main_v27 : IVec S1x1048576 1 := broadcastInDim S1x1048576 ![1] bcast_S1048576_S1x1048576_1 main_v12
  let main_cst_7 : FVec F S_ .f32 := constant S_ .f32 0x3F800000#32
  let main_v28 : FVec F S19x1048576 .f32 := fn_where (F := F) main_v27 main_v26 main_cst_7
  let main_v29 : IVec S1048576 32 := iotaInDim S1048576 32 0
  let main_c_8 : IVec S_ 32 := constantI S_ 32 0#32
  let main_v30 : IVec S1048576 32 := broadcastInDim S1048576 ![] bcast_S_S1048576 main_c_8
  let main_v31 : IVec S1048576 1 := cmpi .slt main_v14 main_v30
  let main_c_9 : IVec S_ 32 := constantI S_ 32 19#32
  let main_v32 : IVec S1048576 32 := broadcastInDim S1048576 ![] bcast_S_S1048576 main_c_9
  let main_v33 : IVec S1048576 32 := addi main_v14 main_v32
  let main_v34 : IVec S1048576 32 := select main_v31 main_v33 main_v14
  let main_c_10 : IVec S_ 32 := constantI S_ 32 0#32
  fn_part2 (F := F) main_v4 main_v10 main_v28 main_v29 main_v34 main_c_10

def fn {F : FTy → Type} [FloatOps F] (main_arg0 : FVec F S1048576x19 .f32) (main_arg1 : IVec S1048576 32) : IVec S1048576 1 :=
  let main_c : IVec S_ 32 := constantI S_ 32 0#32
  let main_v0 : IVec S1048576 32 := broadcastInDim S1048576 ![] bcast_S_S1048576 main_c
  let main_v1 : IVec S1048576 1 := cmpi .sge main_arg1 main_v0
  let main_c_0 : IVec S_ 32 := constantI S_ 32 19#32
  let main_v2 : IVec S1048576 32 := broadcastInDim S1048576 ![] bcast_S_S1048576 main_c_0
  let main_v3 : IVec S1048576 1 := cmpi .slt main_arg1 main_v2
  let main_v4 : IVec S1048576 1 := andi main_v1 main_v3
  let main_cst : FVec F S_ .f32 := constant S_ .f32 0xFF800000#32
  let main_v5 : FVec F S1048576 .f32 := (fun x v => Host.reduce FloatOps.maximumf x v reducesTo_S1048576x19_S1048576_d1 h_S_) main_arg0 main_cst
  let main_cst_1 : FVec F S_ .f32 := constant S_ .f32 0xFF800000#32
  let main_v6 : FVec F S1048576 .f32 := broadcastInDim S1048576 ![] bcast_S_S1048576 main_cst_1
  let main_v7 : IVec S1048576 1 := cmpf .ogt main_v5 main_v6
  let main_cst_2 : FVec F S_ .f32 := constant S_ .f32 0x7F800000#32
  let main_v8 : FVec F S1048576 .f32 := broadcastInDim S1048576 ![] bcast_S_S1048576 main_cst_2
  let main_v9 : IVec S1048576 1 := cmpf .olt main_v5 main_v8
  let main_v10 : IVec S1048576 1 := andi main_v7 main_v9
  let main_c_3 : IVec S_ 32 := constantI S_ 32 255#32
  let main_v11 : IVec S1048576 32 := broadcastInDim S1048576 ![] bcast_S_S1048576 main_c_3
  let main_v12 : IVec S1048576 1 := cmpi .ne main_arg1 main_v11
  let main_v13 : IVec S1048576 32 := (extui 32 · natLt_1_32) main_v12
  let main_v14 : IVec S1048576 32 := muli main_arg1 main_v13
  let main_cst_4 : FVec F S_ .f32 := constant S_ .f32 0xFF800000#32
  let main_v15 : FVec F S1048576 .f32 := (fun x v => Host.reduce FloatOps.maximumf x v reducesTo_S1048576x19_S1048576_d1 h_S_) main_arg0 main_cst_4
  let main_cst_5 : FVec F S_ .f32 := constant S_ .f32 0xFF800000#32
  fn_part1 (F := F) main_arg0 main_v4 main_v10 main_v12 main_v14 main_v15 main_cst_5
-- ==== Kernel.lean ====
abbrev S1048576x19 : Shape := ⟨2, ![1048576, 19]⟩
abbrev S1048576 : Shape := ⟨1, ![1048576]⟩
abbrev S19x1048576 : Shape := ⟨2, ![19, 1048576]⟩
abbrev S19x8192x128 : Shape := ⟨3, ![19, 8192, 128]⟩
abbrev S8192x128 : Shape := ⟨2, ![8192, 128]⟩
abbrev S1x1 : Shape := ⟨2, ![1, 1]⟩
abbrev S19x512x128 : Shape := ⟨3, ![19, 512, 128]⟩
abbrev S512x128 : Shape := ⟨2, ![512, 128]⟩
abbrev S2 : Shape := ⟨1, ![2]⟩
abbrev S1 : Shape := ⟨1, ![1]⟩
abbrev S1x512x128 : Shape := ⟨3, ![1, 512, 128]⟩
abbrev S1x1x1 : Shape := ⟨3, ![1, 1, 1]⟩
abbrev S1x8192x128 : Shape := ⟨3, ![1, 8192, 128]⟩
abbrev S_ : Shape := ⟨0, ![]⟩

abbrev nBuf : Space → Nat
  | .hbm => 8
  | .vmem => 7
  | .smem => 1
  | _ => 0

abbrev bufTy : (tb : Table) → Fin (tcTables nBuf tb) → BufTy
  | .hbm, ⟨0, _⟩ => ⟨S1048576x19, .f32⟩
  | .hbm, ⟨1, _⟩ => ⟨S1048576, .i32⟩
  | .hbm, ⟨2, _⟩ => ⟨S1048576x19, .bf16⟩
  | .hbm, ⟨3, _⟩ => ⟨S19x1048576, .bf16⟩
  | .hbm, ⟨4, _⟩ => ⟨S19x8192x128, .bf16⟩
  | .hbm, ⟨5, _⟩ => ⟨S8192x128, .i32⟩
  | .hbm, ⟨6, _⟩ => ⟨S1x1, .f32⟩
  | .hbm, ⟨7, _⟩ => ⟨S_, .f32⟩
  | .local _ .vmem, ⟨0, _⟩ => ⟨S19x512x128, .bf16⟩
  | .local _ .vmem, ⟨1, _⟩ => ⟨S19x512x128, .bf16⟩
  | .local _ .vmem, ⟨2, _⟩ => ⟨S512x128, .i32⟩
  | .local _ .vmem, ⟨3, _⟩ => ⟨S512x128, .i32⟩
  | .local _ .vmem, ⟨4, _⟩ => ⟨S1x1, .f32⟩
  | .local _ .vmem, ⟨5, _⟩ => ⟨S8192x128, .f32⟩
  | .local _ .vmem, ⟨6, _⟩ => ⟨S8192x128, .f32⟩
  | .local _ .smem, ⟨0, _⟩ => ⟨S2, .f32⟩
  | _, _ => ⟨S1048576x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v21 : BitVec 32 := Scalar.muli arg0 c512_i32
  let v22 : Index := Scalar.indexCast v21
  let c0_7 : Index := 0#32
  ![v22.toNat, 0]
def k0_cond2 (i : grid0.Coords) : BitVec 1 :=
  let arg0 : BitVec 32 := BitVec.ofNat 32 (i 0).val
  let c15_i32 : BitVec 32 := 15#32
  let v51 : BitVec 1 := Scalar.cmpi .eq arg0 c15_i32
  let v52 : BitVec 32 := Scalar.extui v51
  let c0_i32_17 : BitVec 32 := 0#32
  let v53 : BitVec 1 := Scalar.cmpi .ne v52 c0_i32_17
  v53

@[reducible] def k0_t1_loop : Scf.Loop 32 :=
  let c0_i32_26 : BitVec 32 := 0#32
  let c31_i32 : BitVec 32 := 31#32
  let v62 : BitVec 32 := Scalar.addi c0_i32_26 c31_i32
  let c1_i32 : BitVec 32 := 1#32
  ⟨c0_i32_26, v62, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S19x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1048576x19 : Shape := ⟨2, ![1048576, 19]⟩
abbrev S1048576 : Shape := ⟨1, ![1048576]⟩
abbrev S_ : Shape := ⟨0, ![]⟩
abbrev S1048576x1 : Shape := ⟨2, ![1048576, 1]⟩
abbrev S19x1048576 : Shape := ⟨2, ![19, 1048576]⟩
abbrev S1x1048576 : Shape := ⟨2, ![1, 1048576]⟩
abbrev S1048576x2 : Shape := ⟨2, ![1048576, 2]⟩
abbrev S1 : Shape := ⟨1, ![1]⟩
abbrev S1048576x1x1 : Shape := ⟨3, ![1048576, 1, 1]⟩
abbrev S1x1x1 : Shape := ⟨3, ![1, 1, 1]⟩

abbrev nBuf : Space → Nat
  | .hbm => 136
  | .vmem => 0
  | .smem => 0
  | _ => 0

abbrev hbmTy0_0 (i : Nat) : BufTy := match i % 128 with
  | 0 => ⟨S1048576x19, .f32⟩
  | 1 => ⟨S1048576, .i32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i1⟩
  | 8 => ⟨S1048576, .i32⟩
  | 9 => ⟨S1048576, .i32⟩
  | 10 => ⟨S_, .f32⟩
  | 11 => ⟨S1048576, .f32⟩
  | 12 => ⟨S_, .f32⟩
  | 13 => ⟨S1048576, .f32⟩
  | 14 => ⟨S1048576, .f32⟩
  | 15 => ⟨S1048576x1, .f32⟩
  | 16 => ⟨S1048576x19, .f32⟩
  | 17 => ⟨S1048576x19, .f32⟩
  | 18 => ⟨S1048576x19, .f32⟩
  | 19 => ⟨S_, .f32⟩
  | 20 => ⟨S1048576, .f32⟩
  | 21 => ⟨S1048576x1, .f32⟩
  | 22 => ⟨S1048576x19, .f32⟩
  | 23 => ⟨S1048576x19, .f32⟩
  | 24 => ⟨S19x1048576, .f32⟩
  | 25 => ⟨S1x1048576, .i1⟩
  | 26 => ⟨S_, .f32⟩
  | 27 => ⟨S_, .f32⟩
  | 28 => ⟨S19x1048576, .i1⟩
  | 29 => ⟨S19x1048576, .f32⟩
  | 30 => ⟨S19x1048576, .f32⟩
  | 31 => ⟨S1048576, .i32⟩
  | 32 => ⟨S_, .i32⟩
  | 33 => ⟨S1048576, .i32⟩
  | 34 => ⟨S1048576, .i1⟩
  | 35 => ⟨S_, .i32⟩
  | 36 => ⟨S1048576, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S1048576x1, .i32⟩
  | 48 => ⟨S1048576x2, .i32⟩
  | 49 => ⟨S1048576, .f32⟩
  | 50 => ⟨S1048576, .i32⟩
  | 51 => ⟨S1048576, .i32⟩
  | 52 => ⟨S1048576, .i32⟩
  | 53 => ⟨S1048576, .f32⟩
  | 54 => ⟨S1048576, .i32⟩
  | 55 => ⟨S1, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S1, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S1048576, .f32⟩
  | 70 => ⟨S1048576, .i1⟩
  | 71 => ⟨S1048576, .i32⟩
  | 72 => ⟨S1048576, .i32⟩
  | 73 => ⟨S1048576, .i1⟩
  | 74 => ⟨S_, .i32⟩
  | 75 => ⟨S_, .i32⟩
  | 76 => ⟨S1048576, .i32⟩
  | 77 => ⟨S1048576, .i32⟩
  | 78 => ⟨S_, .f32⟩
  | 79 => ⟨S1048576, .f32⟩
  | 80 => ⟨S_, .f32⟩
  | 81 => ⟨S1048576, .f32⟩
  | 82 => ⟨S1048576, .f32⟩
  | 83 => ⟨S1048576x1, .f32⟩
  | 84 => ⟨S1048576x19, .f32⟩
  | 85 => ⟨S1048576x19, .f32⟩
  | 86 => ⟨S1048576x19, .f32⟩
  | 87 => ⟨S_, .f32⟩
  | 88 => ⟨S1048576, .f32⟩
  | 89 => ⟨S1048576x1, .f32⟩
  | 90 => ⟨S1048576x1, .f32⟩
  | 91 => ⟨S1048576x19, .f32⟩
  | 92 => ⟨S1048576x19, .f32⟩
  | 93 => ⟨S_, .i32⟩
  | 94 => ⟨S1048576, .i32⟩
  | 95 => ⟨S1048576, .i1⟩
  | 96 => ⟨S_, .i32⟩
  | 97 => ⟨S_, .i32⟩
  | 98 => ⟨S1048576, .i32⟩
  | 99 => ⟨S1048576, .i32⟩
  | 100 => ⟨S1048576x1, .i32⟩
  | 101 => ⟨S_, .i32⟩
  | 102 => ⟨S1048576x1, .i32⟩
  | 103 => ⟨S1048576x1, .i1⟩
  | 104 => ⟨S_, .i32⟩
  | 105 => ⟨S1048576x1, .i32⟩
  | 106 => ⟨S1048576x1, .i32⟩
  | 107 => ⟨S1048576x1, .i32⟩
  | 108 => ⟨S1048576x1x1, .i32⟩
  | 109 => ⟨S1, .i32⟩
  | 110 => ⟨S_, .i32⟩
  | 111 => ⟨S1048576x1x1, .i32⟩
  | 112 => ⟨S1048576x1x1, .i1⟩
  | 113 => ⟨S1x1x1, .i32⟩
  | 114 => ⟨S1048576x1x1, .i32⟩
  | 115 => ⟨S1048576x1x1, .i1⟩
  | 116 => ⟨S1048576x1x1, .i1⟩
  | 117 => ⟨S_, .i1⟩
  | 118 => ⟨S1048576x1, .i1⟩
  | 119 => ⟨S1048576x1, .f32⟩
  | 120 => ⟨S_, .f32⟩
  | 121 => ⟨S1048576x1, .f32⟩
  | 122 => ⟨S1048576x1, .f32⟩
  | 123 => ⟨S1048576, .f32⟩
  | 124 => ⟨S1048576, .f32⟩
  | 125 => ⟨S1048576, .f32⟩
  | 126 => ⟨S1048576, .f32⟩
  | 127 => ⟨S_, .f32⟩
  | _ => ⟨S1048576x19, .f32⟩

abbrev hbmTy0_1 (i : Nat) : BufTy := match i % 128 with
  | 0 => ⟨S_, .f32⟩
  | 1 => ⟨S1048576, .i32⟩
  | 2 => ⟨S_, .i32⟩
  | 3 => ⟨S_, .i32⟩
  | 4 => ⟨S_, .f32⟩
  | 5 => ⟨S_, .f32⟩
  | 6 => ⟨S_, .f32⟩
  | 7 => ⟨S_, .f32⟩
  | _ => ⟨S1048576x19, .f32⟩

abbrev hbmTy (i : Nat) : BufTy := match i / 128 with
  | 0 => hbmTy0_0 i
  | 1 => hbmTy0_1 i
  | _ => ⟨S1048576x19, .f32⟩

abbrev bufTy : (tb : Table) → Fin (tcTables nBuf tb) → BufTy
  | .hbm, ⟨i, _⟩ => hbmTy i
  | _, _ => ⟨S1048576x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1_0 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_8 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_cst_11 : Ref sig .tc := ⟨.hbm, 66, rfl⟩
abbrev main_call2_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_call3_v0 : Ref sig .tc := ⟨.hbm, 75, rfl⟩
abbrev main_call3_v1 : Ref sig .tc := ⟨.hbm, 76, rfl⟩
abbrev main_v52 : Ref sig .tc := ⟨.hbm, 77, rfl⟩
abbrev main_call4_cst : Ref sig .tc := ⟨.hbm, 78, rfl⟩
abbrev main_call4_v0 : Ref sig .tc := ⟨.hbm, 79, rfl⟩
abbrev main_call4_cst_0 : Ref sig .tc := ⟨.hbm, 80, rfl⟩
abbrev main_call4_v1 : Ref sig .tc := ⟨.hbm, 81, rfl⟩
abbrev main_call4_v2 : Ref sig .tc := ⟨.hbm, 82, rfl⟩
abbrev main_call4_v3 : Ref sig .tc := ⟨.hbm, 83, rfl⟩
abbrev main_call4_v4 : Ref sig .tc := ⟨.hbm, 84, rfl⟩
abbrev main_call4_v5 : Ref sig .tc := ⟨.hbm, 85, rfl⟩
abbrev main_call4_v6 : Ref sig .tc := ⟨.hbm, 86, rfl⟩
abbrev main_call4_cst_1 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_v53 : Ref sig .tc := ⟨.hbm, 92, rfl⟩
abbrev main_c_13 : Ref sig .tc := ⟨.hbm, 93, rfl⟩
abbrev main_v54 : Ref sig .tc := ⟨.hbm, 94, rfl⟩
abbrev main_v55 : Ref sig .tc := ⟨.hbm, 95, rfl⟩
abbrev main_c_14 : Ref sig .tc := ⟨.hbm, 96, rfl⟩
abbrev main_call5_v0 : Ref sig .tc := ⟨.hbm, 97, rfl⟩
abbrev main_call5_v1 : Ref sig .tc := ⟨.hbm, 98, rfl⟩
abbrev main_v56 : Ref sig .tc := ⟨.hbm, 99, rfl⟩
abbrev main_v57 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c_1 : Ref sig .tc := ⟨.hbm, 109, rfl⟩
abbrev main_call6_c_2 : Ref sig .tc := ⟨.hbm, 110, rfl⟩
abbrev main_call6_v6 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_3 : Ref sig .tc := ⟨.hbm, 117, rfl⟩
abbrev main_call6_v12 : Ref sig .tc := ⟨.hbm, 118, rfl⟩
abbrev main_call6_v13 : Ref sig .tc := ⟨.hbm, 119, rfl⟩
abbrev main_call6_cst : Ref sig .tc := ⟨.hbm, 120, rfl⟩
abbrev main_call6_v14 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_cst_15 : Ref sig .tc := ⟨.hbm, 127, rfl⟩
abbrev main_v63 : Ref sig .tc := ⟨.hbm, 128, rfl⟩
abbrev main_v64 : Ref sig .tc := ⟨.hbm, 129, rfl⟩
abbrev main_c_16 : Ref sig .tc := ⟨.hbm, 130, rfl⟩
abbrev main_v65 : Ref sig .tc := ⟨.hbm, 131, rfl⟩
abbrev main_v66 : Ref sig .tc := ⟨.hbm, 132, rfl⟩
abbrev main_cst_17 : Ref sig .tc := ⟨.hbm, 133, rfl⟩
abbrev main_v67 : Ref sig .tc := ⟨.hbm, 134, rfl⟩
abbrev main_v68 : Ref sig .tc := ⟨.hbm, 135, rfl⟩

abbrev nD : Nat := 1
abbrev τ : Topo := Topo.v7x

variable {F : FTy → Type} [FloatOps F]
-- ==== Proof.BitsFrame.lean ====
/- The kernel as printed, over machine floats: it runs to its end, leaves its arguments as they were and every counter at zero. Nothing
   is said here of what it computes, so its own buffers and its output are at anything throughout. -/
module

public import proofs.«01_k».proof.Proof.Gen.Kernel.Frame
public import proofs.«01_k».proof.Proof.Gen.Kernel.Points
public import proofs.«01_k».proof.Proof.Gen.Kernel.Loops
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any point, from anything in the buffers it writes. -/
theorem any_run (c : Dev nD) (i : grid0.Coords) (arg1 : Memref sig .tc .vmem S19x512x128 .bf16) (harg1 : arg1.IsWhole)
    (arg2 : Memref sig .tc .vmem S512x128 .i32) (harg2 : arg2.IsWhole) (arg3 : Memref sig .tc .vmem S1x1 .f32) (harg3 : arg3.IsWhole)
    (arg4 : Memref sig .tc .vmem S8192x128 .f32) (harg4 : arg4.IsWhole) (arg5 : Memref sig .tc .vmem S8192x128 .f32) (harg5 : arg5.IsWhole)
    (arg6 : Memref sig .tc .smem S2 .f32) (harg6 : arg6.IsWhole)
    (x0 : Vec F S19x512x128 .bf16) (x1 : Vec F S512x128 .i32) (E : Set ℕ) (K : PUnit → sProp 𝕄) :
    iprop(owns (c : Thread nD τ) arg1 fullShare x0 ∗ owns (c : Thread nD τ) arg2 fullShare x1 ∗
        (∃ d, owns (c : Thread nD τ) arg3 fullShare d) ∗ (∃ d, owns (c : Thread nD τ) arg4 fullShare d) ∗
        (∃ d, owns (c : Thread nD τ) arg5 fullShare d) ∗ (∃ d, owns (c : Thread nD τ) arg6 fullShare d) ∗
        (iprop(owns (c : Thread nD τ) arg1 fullShare x0 ∗ owns (c : Thread nD τ) arg2 fullShare x1 ∗
          (∃ d, owns (c : Thread nD τ) arg3 fullShare d) ∗ (∃ d, owns (c : Thread nD τ) arg4 fullShare d) ∗
          (∃ d, owns (c : Thread nD τ) arg5 fullShare d) ∗ (∃ d, owns (c : Thread nD τ) arg6 fullShare d)) -∗ K ⟨⟩))
      ⊢ wp frame (wpE (defs₀ (F := F)) Variants.none c none) E
          (cc0__ohem_body i arg1 harg1 arg2 harg2 arg3 harg3 arg4 harg4 arg5 harg5 arg6 harg6) K := by
  simp only [cc0__ohem_body_eq_skeleton]
  unfold cc0__ohem_body_skel
  simp only [k0_part1_eq_skeleton]
  unfold owns
  iintro ⟨⟨%f0, %hf0, H0⟩, ⟨%f1, %hf1, H1⟩, ⟨%d2, %f2, -, H2⟩, ⟨%dp, %fs0, -, HS0⟩, ⟨%dn, %fs1, -, HS1⟩, ⟨%da, %fs2, -, HS2⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _, _; isplitr; swap; · iexact H2
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

abbrev stgA (t : Fin cfg0.N) : Memref sig .tc .vmem S19x512x128 .bf16 := win0_0.stage (cfg0.slots t 0)
abbrev stgB (t : Fin cfg0.N) : Memref sig .tc .vmem S512x128 .i32 := win0_1.stage (cfg0.slots t 1)
abbrev stgC (t : Fin cfg0.N) : Memref sig .tc .vmem S1x1 .f32 := win0_2.stage (cfg0.slots t 2)
theorem wholeA (t : Fin cfg0.N) : (stgA t).IsWhole := hstage0_0 ((cfg0.slots t 0).cast nbuf0_0)
theorem wholeB (t : Fin cfg0.N) : (stgB t).IsWhole := hstage0_1 ((cfg0.slots t 1).cast nbuf0_1)
theorem wholeC (t : Fin cfg0.N) : (stgC t).IsWhole := hstage0_2 ((cfg0.slots t 2).cast nbuf0_2)
abbrev bufP : Memref sig .tc .vmem S8192x128 .f32 := Memref.whole cc0_scratch0
abbrev bufN : Memref sig .tc .vmem S8192x128 .f32 := Memref.whole cc0_scratch1
abbrev bufT : Memref sig .tc .smem S2 .f32 := Memref.whole cc0_scratch2

/-- What the launch hands the region, with the kernel's own buffers named. -/
theorem launch_eq (c : Dev nD) :
    (Pipeline.ΦA spec0 c : sProp 𝕄)
      = iprop(iprop((∃ d, owns (c : Thread nD τ) bufP fullShare d) ∗ (∃ d, owns (c : Thread nD τ) bufN fullShare d) ∗
          (∃ d, owns (c : Thread nD τ) bufT fullShare d)) ∗ (∃ r, prngReg c r)) := by
  unfold Pipeline.ΦA
  rw [scopedRest0_eq]
  simp only [bufP, bufN, bufT, owns_whole]
  try rfl

/-- The output window is the one of which nothing is said. -/
def silent : Fin 3 → Bool := fun w => w.val == 2

/-- The pipeline's proof data: the inputs stay, nothing is said of the output, and between points the kernel's own buffers are at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem found_0 (c : Dev nD) (t : Fin cfg0.N) (d) : (dats m 0 c).before 0 t d = iblk m c 0 t :=
  before0_0_of m (dats m 0 c) (A_eq m c 0) (left_0 m c) t d
theorem found_1 (c : Dev nD) (t : Fin cfg0.N) (d) : (dats m 0 c).before 1 t d = iblk m c 1 t :=
  before0_1_of m (dats m 0 c) (A_eq m c 1) (left_1 m c) t d
theorem leaves_0 (c : Dev nD) (t : Fin cfg0.N) : (dats m 0 c).leavesExact 0 t = owns (c : Thread nD τ) (stgA t) fullShare (iblk m c 0 t) := by
  unfold Dat.leavesExact
  rw [show cfg0.idle 0 (grid0.coords t) = false from rfl, left_0]
theorem leaves_1 (c : Dev nD) (t : Fin cfg0.N) : (dats m 0 c).leavesExact 1 t = owns (c : Thread nD τ) (stgB t) fullShare (iblk m c 1 t) := by
  unfold Dat.leavesExact
  rw [show cfg0.idle 1 (grid0.coords t) = false from rfl, left_1]

def Before (c : Dev nD) (t : Fin cfg0.N) : sProp 𝕄 :=
  iprop((dats m 0 c).Φ t.castSucc ∗ (dats m 0 c).owesAt () t.castSucc
    ∗ (∃ d, owns (c : Thread nD τ) (stgA t) fullShare ((dats m 0 c).before 0 t d))
    ∗ (∃ d, owns (c : Thread nD τ) (stgB t) fullShare ((dats m 0 c).before 1 t d))
    ∗ (∃ d, owns (c : Thread nD τ) (stgC t) fullShare d))
def After (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (∃ d, owns (c : Thread nD τ) (stgC t) fullShare d))

theorem body_sound (c : Dev nD) (t : Fin cfg0.N) :
    Before m c t ⊢ wp frame (wpE (defs₀ (F := F)) Variants.none c none) Set.univ (bodyAt0 t) (fun _ => After m c t) := by
  unfold Before After bodyAt0
  simp only [found_0, found_1]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl]
  rw [leaves_0, leaves_1, launch_eq]
  iintro ⟨⟨⟨HP, HN, HT⟩, Hg⟩, Ho, ⟨%d0, H0⟩, ⟨%d1, H1⟩, H2⟩
  iapply (any_run c (grid0.coords t) _ (wholeA t) _ (wholeB t) _ (wholeC t) _ (Memref.isWhole_whole _) _ (Memref.isWhole_whole _)
    _ (Memref.isWhole_whole _) (iblk m c 0 t) (iblk m c 1 t) Set.univ _)
  isplitl [H0]; · iexact H0
  isplitl [H1]; · iexact H1
  isplitl [H2]; · iexact H2
  isplitl [HP]; · iexact HP
  isplitl [HN]; · iexact HN
  isplitl [HT]; · iexact HT
  iintro ⟨H0, H1, H2, HP, HN, HT⟩
  isplitl [HP HN HT Hg]
  · isplitl [HP HN HT]
    · isplitl [HP]; · iexact HP
      isplitl [HN]; · iexact HN
      iexact HT
    iexact Hg
  isplitl [Ho]; · iexact Ho
  isplitl [H0]; · iexact H0
  isplitl [H1]; · iexact H1
  iexact H2

theorem row_eq (t : Fin cfg0.N) : defs₀ (F := F) .tc cfg0.body (cfg0.bodyArgs t (cfg0.slots t)) = bodyAt0 t := by
  unfold defs₀
  rw [Defs.onTc_tc]

theorem obligation (c : Dev nD) : BodyObligation (dats (F := F) m 0 c) (defs₀ (F := F)) Variants.none () Set.univ silent := fun t => by
  rw [bigSep_W0, bigSep_W0, row_eq]
  exact triple_restated (body_sound m c t) rfl .rfl fun _ => .rfl

/-- What the lines after the region write: nothing is said of it either. -/
def written : Finset (Ref sig .tc) := {main_v5}

theorem tail_writes : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  subst hops
  simp only [hostOps1, List.mem_cons, List.mem_nil_iff, or_false] at hop
  subst hop
  intro b hb
  simp only [StableHlo.reshape_writes, Finset.mem_singleton] at hb
  cases Proc.devRef_injective _ hb
  decide

set_option backward.isDefEq.respectTransparency.types false in
set_option maxHeartbeats 800000 in
theorem launched : θ_run defs (onTc (τ := τ) (main (F := F))) (s₀ m ρ) (fun r =>
    (Pipeline.RDat.FramePostR (cfgs 0) (fun c => (dats m 0 c).toRForget silent) written (V m)) r ∧ r.2.sem = fun _ => 0) :=
  Pipeline.θ_run_frame_around_T_track_forget (Q' := _) cfgs (dats m) (0 : Fin 1) launch0 defs₀ Variants.none silent written m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := fun _ => .rfl) (hout := fun _ => .rfl)

/-- The kernel runs to its end, leaves its arguments as they were, and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩,
    h.2⟩) (launched m ρ)

end Cert.Kernel.Hand

end
-- ==== Proof.Body.lean ====
/- One run of the kernel's body, at the first grid point, at one in the middle and at the last: what the two row buffers, the two
   running totals and the output cell hold afterwards, for any float values. -/
module

public import proofs.«01_k».proof.Proof.Gen.KernelIdeal.Frame
public import proofs.«01_k».proof.Proof.Gen.KernelIdeal.Points
public import proofs.«01_k».proof.Proof.Gen.KernelIdeal.Loops
public import Idealize.ShloMosaic.Lib.WritesUnit
public import Idealize.ShloMosaic.Lib.CellWrites
public import Idealize.ShloMosaic.Lib.Claim
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.VecWindow
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

/-- The grid coordinate is 0: the totals are reset. -/
abbrev atFirst (i : grid0.Coords) : Prop := (Scalar.cmpi .ne (Scalar.extui (Scalar.cmpi .eq (BitVec.ofNat 32 (i 0).val) 0#32)) 0#32) = 1#1

/-- The grid coordinate is 15: the output is computed. -/
abbrev atLast (i : grid0.Coords) : Prop := k0_cond2 i = 1#1

/-- A buffer of 8192 rows after block `n`'s 512 rows are replaced by `v`. -/
def rowsPut (n : ℕ) (d : Vec F S8192x128 .f32) (v : Vec F S512x128 .f32) : Vec F S8192x128 .f32 := fun y =>
  if h : 512 * n ≤ (y 0).val ∧ (y 0).val < 512 * n + 512 then
    v (ValueIdx.ix2 (⟨(y 0).val - 512 * n, by omega⟩ : Fin 512) (y 1 : Fin 128))
  else d y

/-- The two running totals as one buffer. -/
def pair (p q : F .f32) : Vec F S2 .f32 := fun y => if (y 0).val = 0 then p else q

/-- The totals after a block whose logits and labels are `x0`, `x1`: the number of kept rows and the sum of their losses are added. -/
def totalsNext (a0 a1 : F .f32) (x0 : Vec F S19x512x128 .bf16) (x1 : Vec F S512x128 .i32) : Vec F S2 .f32 :=
  pair (k0_pay1 a0 (k0_pay14 x0 x1)) (k0_pay2 (k0_pay10 x0 x1) (k0_pay13 x0 x1) a1)

/-- The word halfway between the two ends of the search. -/
def middle (s : BitVec 32 × BitVec 32) : BitVec 32 :=
  let v84 := Scalar.addi s.1 s.2
  Scalar.select (Scalar.andi
      (Scalar.cmpi .ne (Scalar.subi (Scalar.extui (Scalar.cmpi .sgt v84 0#32)) (Scalar.extui (Scalar.cmpi .slt v84 0#32)))
        (Scalar.subi (Scalar.extui (Scalar.cmpi .sgt 2#32 0#32)) (Scalar.extui (Scalar.cmpi .slt 2#32 0#32))))
      (Scalar.cmpi .ne (Scalar.remsi v84 2#32) 0#32))
    (Scalar.subi (Scalar.divsi v84 2#32) 1#32) (Scalar.divsi v84 2#32)

/-- One halving of the search for the least word whose float is at least 100000 of the probabilities `P`. -/
def halve (P : Vec F S8192x128 .f32) (s : BitVec 32 × BitVec 32) : BitVec 32 × BitVec 32 :=
  let enough := Scalar.cmpi .sge (extractAt ![0, 0, 0] (k0_pay4 P s.1 s.2) inpos_S1x1x1_p0_0_0) 100000#32
  (Scalar.select enough s.1 (Scalar.addi (middle s) 1#32), Scalar.select enough (middle s) s.2)

/-- The two ends after all the halvings. -/
def search (P : Vec F S8192x128 .f32) : BitVec 32 × BitVec 32 :=
  Scf.fold (n := k0_t1_loop.trips) (fun _ s => halve P s) (0#32, 1065353216#32)

/-- The count is at least 100000, as the kernel asks it. -/
abbrev isMany (a : F .f32) : Prop :=
  Scalar.cmpi .ne (Scalar.extui (Scalar.cmpf .oge a (FloatOps.ofBits FTy.f32 0x47C35000#32))) 0#32 = 1#1

/-- The count is below 100000, as the kernel asks it. -/
abbrev isFew (a : F .f32) : Prop :=
  Scalar.cmpi .ne (Scalar.extui (Scalar.cmpf .olt a (FloatOps.ofBits FTy.f32 0x47C35000#32))) 0#32 = 1#1

/-- What the last point leaves in the output cell, over the probabilities `P`, the losses `L`, the totals `a` and what it held. -/
def lastOut (P L : Vec F S8192x128 .f32) (a : Vec F S2 .f32) (d : Vec F S1x1 .f32) : Vec F S1x1 .f32 :=
  if isFew (a (ValueIdx.ix1 (0 : Fin 2))) then k0_pay5 P (search P).2 L
  else if isMany (a (ValueIdx.ix1 (0 : Fin 2))) then k0_pay3 (a (ValueIdx.ix1 (0 : Fin 2))) (a (ValueIdx.ix1 (1 : Fin 2))) else d

variable {sg : RefSig} {sp : Space}

theorem off_eq (i : grid0.Coords) : k0_off1 i = ![512 * (i 0).val, 0] := by
  revert i; decide +kernel

/-- Storing block `i`'s rows and reading the buffer back. -/
theorem read_rows (v : View sg .tc sp S8192x128 .f32) (f : v.ty.Contents (Elt F)) (i : grid0.Coords)
    (inb : ∀ a, k0_off1 i a + S512x128.size a ≤ S8192x128.size a) (w : Vec F S512x128 .f32) :
    v.read (Elt F) (v.writes (Elt F) f [⟨Rect.unit (k0_off1 i) S512x128.size inb, w⟩]) = rowsPut (i 0).val (v.read (Elt F) f) w := by
  funext y
  refine (View.read_writes_cons_rows v f inb w [] y (off_eq i) (W := 512) rfl rfl).trans ?_
  unfold rowsPut
  split
  · congr 1
    funext a
    refine Fin.cases ?_ (fun b => ?_) a
    · exact Fin.ext (Rect.unitLocal_val ..)
    · refine Fin.cases ?_ (fun b => b.elim0) b
      exact Fin.ext ((Rect.unitLocal_val ..).trans (Nat.sub_zero _))
  · rfl

/-- Storing the two totals and reading the buffer back. -/
theorem read_pair (v : View sg .tc sp S2 .f32) (f : v.ty.Contents (Elt F)) (h1 h0) (p q : F .f32) (L : List (View.Piece (Elt F) S2 .f32)) :
    v.read (Elt F) (v.writes (Elt F) f (⟨Rect.unit ![1] S1.size h1, fun _ => q⟩ :: ⟨Rect.unit ![0] S1.size h0, fun _ => p⟩ :: L)) = pair p q := by
  funext y
  refine (View.read_writes_cons_cell v f h1 q _ y).trans ?_
  unfold pair
  have hy : (y 0).val < 2 := (y 0).isLt
  split
  · next h => rw [if_neg]; rw [h]; exact Nat.one_ne_zero
  · next h =>
    rw [View.read_writes_cons_cell v f h0 p L y]
    have h' : (y 0).val ≠ 1 := h
    have : (y 0).val = 0 := by omega
    rw [if_pos this]; exact if_pos this

/-- Loading cell `k` of the two totals. -/
theorem read_cell (v : View sg .tc sp S2 .f32) (f : v.ty.Contents (Elt F)) (k : Fin 2) (o : Fin 1 → ℕ) (ho : o = ![k.val]) (inb) (h) :
    v.readAt (Elt F) (Rect.unit (s := S2) o S1.size inb).toLoadRect f (Shape.Idx.first h) = v.read (Elt F) f (ValueIdx.ix1 k) := by
  subst ho
  refine congrArg (v.read (Elt F) f) (funext fun a => ?_)
  match a with | ⟨0, _⟩ => exact Fin.ext (show k.val + 1 * 0 = k.val by omega)

/-- Reading the output cell after whichever of two stores happened. -/
theorem read_out (A B : Prop) [Decidable A] [Decidable B] (v : View sg .tc sp S1x1 .f32) (f g : v.ty.Contents (Elt F)) (inb inb') (u w : Vec F S1x1 .f32) :
    v.read (Elt F) (if hc : A then v.writes (Elt F) g [⟨Rect.unit ![0, 0] ![1, 1] inb, u⟩]
      else if hc : B then v.writes (Elt F) f [⟨Rect.unit ![0, 0] ![1, 1] inb', w⟩] else f) = if A then u else if B then w else v.read (Elt F) f := by
  by_cases hA : A
  · rw [dif_pos hA, if_pos hA]; exact View.read_writes_full v g _ _ []
  · rw [dif_neg hA, if_neg hA]
    by_cases hB : B
    · rw [dif_pos hB, if_pos hB]; exact View.read_writes_full v f _ _ []
    · rw [dif_neg hB, if_neg hB]

section Runs

variable (c : Dev nD)
  (i : grid0.Coords)
  (arg1 : Memref sig .tc .vmem S19x512x128 .bf16)
  (harg1 : arg1.IsWhole)
  (arg2 : Memref sig .tc .vmem S512x128 .i32)
  (harg2 : arg2.IsWhole)
  (arg3 : Memref sig .tc .vmem S1x1 .f32)
  (harg3 : arg3.IsWhole)
  (arg4 : Memref sig .tc .vmem S8192x128 .f32)
  (harg4 : arg4.IsWhole)
  (arg5 : Memref sig .tc .vmem S8192x128 .f32)
  (harg5 : arg5.IsWhole)
  (arg6 : Memref sig .tc .smem S2 .f32)
  (harg6 : arg6.IsWhole)
  (x0 : Vec F S19x512x128 .bf16) (x1 : Vec F S512x128 .i32) (x2 : Vec F S1x1 .f32) (dp dn : Vec F S8192x128 .f32) (da : Vec F S2 .f32)

/-- The probabilities' buffer after a point's store. -/
theorem after_p (inb) : arg4.view.read (Elt F) (arg4.view.writes (Elt F) (harg4.unread dp) [⟨Rect.unit (k0_off1 i) S512x128.size inb,
    k0_pay11 (arg1.view.readAt (Elt F) (Rect.unit ![0, 0, 0] S19x512x128.size inb_S19x512x128_S19x512x128_0_0_0).toLoadRect (harg1.unread x0))
      (arg2.view.readAt (Elt F) (Rect.unit ![0, 0] S512x128.size inb_S512x128_S512x128_0_0).toLoadRect (harg2.unread x1))⟩]) =
    rowsPut (i 0).val dp (k0_pay11 x0 x1) := by
  rw [read_rows, View.readAt_full, View.readAt_full, harg4.read_unread, harg1.read_unread, harg2.read_unread]

/-- The losses' buffer after a point's store. -/
theorem after_n (inb) : arg5.view.read (Elt F) (arg5.view.writes (Elt F) (harg5.unread dn) [⟨Rect.unit (k0_off1 i) S512x128.size inb,
    k0_pay12 (arg1.view.readAt (Elt F) (Rect.unit ![0, 0, 0] S19x512x128.size inb_S19x512x128_S19x512x128_0_0_0).toLoadRect (harg1.unread x0))
      (arg2.view.readAt (Elt F) (Rect.unit ![0, 0] S512x128.size inb_S512x128_S512x128_0_0).toLoadRect (harg2.unread x1))⟩]) =
    rowsPut (i 0).val dn (k0_pay12 x0 x1) := by
  rw [read_rows, View.readAt_full, View.readAt_full, harg5.read_unread, harg1.read_unread, harg2.read_unread]

/-- The two totals after a point's stores, over what the two cells held when they were loaded. -/
theorem after_a (a0 a1 : F .f32) (f : arg6.view.ty.Contents (Elt F)) (L : List (View.Piece (Elt F) S2 .f32)) (inb inb') :
    arg6.view.read (Elt F) (arg6.view.writes (Elt F) f (
      ⟨Rect.unit ![1] ![1] inb, fun _ => k0_pay2
        (k0_pay10 (arg1.view.readAt (Elt F) (Rect.unit ![0, 0, 0] S19x512x128.size inb_S19x512x128_S19x512x128_0_0_0).toLoadRect (harg1.unread x0))
          (arg2.view.readAt (Elt F) (Rect.unit ![0, 0] S512x128.size inb_S512x128_S512x128_0_0).toLoadRect (harg2.unread x1)))
        (k0_pay13 (arg1.view.readAt (Elt F) (Rect.unit ![0, 0, 0] S19x512x128.size inb_S19x512x128_S19x512x128_0_0_0).toLoadRect (harg1.unread x0))
          (arg2.view.readAt (Elt F) (Rect.unit ![0, 0] S512x128.size inb_S512x128_S512x128_0_0).toLoadRect (harg2.unread x1))) a1⟩ ::
      ⟨Rect.unit ![0] ![1] inb', fun _ => k0_pay1 a0
        (k0_pay14 (arg1.view.readAt (Elt F) (Rect.unit ![0, 0, 0] S19x512x128.size inb_S19x512x128_S19x512x128_0_0_0).toLoadRect (harg1.unread x0))
          (arg2.view.readAt (Elt F) (Rect.unit ![0, 0] S512x128.size inb_S512x128_S512x128_0_0).toLoadRect (harg2.unread x1)))⟩ :: L)) =
    totalsNext a0 a1 x0 x1 := by
  refine (read_pair _ _ _ _ _ _ _).trans ?_
  rw [View.readAt_full, View.readAt_full, harg1.read_unread, harg2.read_unread]
  rfl

/-- The output cell after the last point's branches, over what the whole buffers and the two totals were loaded as. -/
theorem after_out {P L P' L' : Vec F S8192x128 .f32} (p q : F .f32) (f g : arg3.view.ty.Contents (Elt F)) (inb inb')
    (hP : P' = P) (hL : L' = L) (hf : arg3.view.read (Elt F) f = x2) :
    arg3.view.read (Elt F) (if hc : isFew p then arg3.view.writes (Elt F) g [⟨Rect.unit ![0, 0] ![1, 1] inb, k0_pay5 P' (search P').2 L'⟩]
      else if hc : isMany p then arg3.view.writes (Elt F) f [⟨Rect.unit ![0, 0] ![1, 1] inb', k0_pay3 p q⟩] else f) =
    lastOut P L (pair p q) x2 := by
  subst hP hL
  rw [← hf]
  exact read_out (isFew p) (isMany p) _ _ _ _ _ _ _

set_option maxHeartbeats 1000000 in
/-- A point that is neither the first nor the last. -/
theorem mid_run (hc0 : ¬atFirst i) (hc1 : ¬atLast i) (E : Set ℕ) (K : PUnit → sProp 𝕄) :
    iprop(owns (c : Thread nD τ) arg1 fullShare x0 ∗ owns (c : Thread nD τ) arg2 fullShare x1 ∗ owns (c : Thread nD τ) arg3 fullShare x2 ∗
        owns (c : Thread nD τ) arg4 fullShare dp ∗ owns (c : Thread nD τ) arg5 fullShare dn ∗ owns (c : Thread nD τ) arg6 fullShare da ∗
        (iprop(owns (c : Thread nD τ) arg1 fullShare x0 ∗ owns (c : Thread nD τ) arg2 fullShare x1 ∗ owns (c : Thread nD τ) arg3 fullShare x2 ∗
        owns (c : Thread nD τ) arg4 fullShare (rowsPut (i 0).val dp (k0_pay11 x0 x1)) ∗ owns (c : Thread nD τ) arg5 fullShare (rowsPut (i 0).val dn (k0_pay12 x0 x1)) ∗ owns (c : Thread nD τ) arg6 fullShare (totalsNext (da (ValueIdx.ix1 0)) (da (ValueIdx.ix1 1)) x0 x1)) -∗ K ⟨⟩))
      ⊢ wp frame (wpE (defs₀ (F := F)) Variants.none c none) E
          (cc0__ohem_body i arg1 harg1 arg2 harg2 arg3 harg3 arg4 harg4 arg5 harg5 arg6 harg6) K := by
  simp only [cc0__ohem_body_eq_skeleton]
  unfold cc0__ohem_body_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact hf2
  isplitl [HS0]
  · iexists _; isplitr; swap; · iexact HS0
    ipureintro
    apply after_p
  isplitl [HS1]
  · iexists _; isplitr; swap; · iexact HS1
    ipureintro
    apply after_n
  iexists _; isplitr; swap; · iexact HS2
  ipureintro
  have e0 := (read_cell arg6.view (harg6.unread da) 0 ![0] rfl inb_S2_S1_0 (by decide)).trans (congrFun hfs2 _)
  have e1 := (read_cell arg6.view (harg6.unread da) 1 ![1] rfl inb_S2_S1_1 (by decide)).trans (congrFun hfs2 _)
  rw [← e0, ← e1]
  apply after_a

set_option maxHeartbeats 1000000 in
/-- The first point: the totals start from nothing. -/
theorem first_run (hc0 : atFirst i) (hc1 : ¬atLast i) (E : Set ℕ) (K : PUnit → sProp 𝕄) :
    iprop(owns (c : Thread nD τ) arg1 fullShare x0 ∗ owns (c : Thread nD τ) arg2 fullShare x1 ∗ owns (c : Thread nD τ) arg3 fullShare x2 ∗
        owns (c : Thread nD τ) arg4 fullShare dp ∗ owns (c : Thread nD τ) arg5 fullShare dn ∗ owns (c : Thread nD τ) arg6 fullShare da ∗
        (iprop(owns (c : Thread nD τ) arg1 fullShare x0 ∗ owns (c : Thread nD τ) arg2 fullShare x1 ∗ owns (c : Thread nD τ) arg3 fullShare x2 ∗
        owns (c : Thread nD τ) arg4 fullShare (rowsPut (i 0).val dp (k0_pay11 x0 x1)) ∗ owns (c : Thread nD τ) arg5 fullShare (rowsPut (i 0).val dn (k0_pay12 x0 x1)) ∗ owns (c : Thread nD τ) arg6 fullShare (totalsNext (FloatOps.ofBits .f32 0#32) (FloatOps.ofBits .f32 0#32) x0 x1)) -∗ K ⟨⟩))
      ⊢ wp frame (wpE (defs₀ (F := F)) Variants.none c none) E
          (cc0__ohem_body i arg1 harg1 arg2 harg2 arg3 harg3 arg4 harg4 arg5 harg5 arg6 harg6) K := by
  simp only [cc0__ohem_body_eq_skeleton]
  unfold cc0__ohem_body_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    exact hf2
  isplitl [HS0]
  · iexists _; isplitr; swap; · iexact HS0
    ipureintro
    apply after_p
  isplitl [HS1]
  · iexists _; isplitr; swap; · iexact HS1
    ipureintro
    apply after_n
  iexists _; isplitr; swap; · iexact HS2
  ipureintro
  apply after_a

set_option maxHeartbeats 1000000 in
/-- The last point: the output cell is written. -/
theorem last_run (hc0 : ¬atFirst i) (hc1 : atLast i) (E : Set ℕ) (K : PUnit → sProp 𝕄) :
    iprop(owns (c : Thread nD τ) arg1 fullShare x0 ∗ owns (c : Thread nD τ) arg2 fullShare x1 ∗ owns (c : Thread nD τ) arg3 fullShare x2 ∗
        owns (c : Thread nD τ) arg4 fullShare dp ∗ owns (c : Thread nD τ) arg5 fullShare dn ∗ owns (c : Thread nD τ) arg6 fullShare da ∗
        (iprop(owns (c : Thread nD τ) arg1 fullShare x0 ∗ owns (c : Thread nD τ) arg2 fullShare x1 ∗ owns (c : Thread nD τ) arg3 fullShare (lastOut (rowsPut (i 0).val dp (k0_pay11 x0 x1)) (rowsPut (i 0).val dn (k0_pay12 x0 x1)) (totalsNext (da (ValueIdx.ix1 0)) (da (ValueIdx.ix1 1)) x0 x1) x2) ∗
        owns (c : Thread nD τ) arg4 fullShare (rowsPut (i 0).val dp (k0_pay11 x0 x1)) ∗ owns (c : Thread nD τ) arg5 fullShare (rowsPut (i 0).val dn (k0_pay12 x0 x1)) ∗ owns (c : Thread nD τ) arg6 fullShare (totalsNext (da (ValueIdx.ix1 0)) (da (ValueIdx.ix1 1)) x0 x1)) -∗ K ⟨⟩))
      ⊢ wp frame (wpE (defs₀ (F := F)) Variants.none c none) E
          (cc0__ohem_body i arg1 harg1 arg2 harg2 arg3 harg3 arg4 harg4 arg5 harg5 arg6 harg6) K := by
  simp only [cc0__ohem_body_eq_skeleton]
  unfold cc0__ohem_body_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg1.eq_unread hf0; obtain rfl := harg2.eq_unread hf1; obtain rfl := harg3.eq_unread hf2
  obtain rfl := harg4.eq_unread hfs0; obtain rfl := harg5.eq_unread hfs1; obtain rfl := harg6.eq_unread hfs2
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    have e0 := (read_cell arg6.view (harg6.unread da) 0 ![0] rfl inb_S2_S1_0 (by decide)).trans (congrFun hfs2 _)
    have e1 := (read_cell arg6.view (harg6.unread da) 1 ![1] rfl inb_S2_S1_1 (by decide)).trans (congrFun hfs2 _)
    have eP : arg4.view.readAt (Elt F) (Rect.unit (s := S8192x128) ![0, 0] ![8192, 128] inb_S8192x128_S8192x128_0_0).toLoadRect _ = _ :=
      (View.readAt_full arg4.view _ inb_S8192x128_S8192x128_0_0).trans (after_p i arg1 harg1 arg2 harg2 arg4 harg4 x0 x1 dp (k0_off1_inb i))
    have eN : arg5.view.readAt (Elt F) (Rect.unit (s := S8192x128) ![0, 0] ![8192, 128] inb_S8192x128_S8192x128_0_0).toLoadRect _ = _ :=
      (View.readAt_full arg5.view _ inb_S8192x128_S8192x128_0_0).trans (after_n i arg1 harg1 arg2 harg2 arg5 harg5 x0 x1 dn (k0_off1_inb i))
    sl_unfold_run_names
    rw [eP, eN]
    have h0 := (View.readAt_full arg1.view (harg1.unread x0) inb_S19x512x128_S19x512x128_0_0_0).trans hf0
    have h1 := (View.readAt_full arg2.view (harg2.unread x1) inb_S512x128_S512x128_0_0).trans hf1
    simp only [h0, h1, e0, e1]
    exact after_out arg3 x2 _ _ _ _ _ _ rfl rfl hf2
  isplitl [HS0]
  · iexists _; isplitr; swap; · iexact HS0
    ipureintro
    apply after_p
  isplitl [HS1]
  · iexists _; isplitr; swap; · iexact HS1
    ipureintro
    apply after_n
  iexists _; isplitr; swap; · iexact HS2
  ipureintro
  have e0 := (read_cell arg6.view (harg6.unread da) 0 ![0] rfl inb_S2_S1_0 (by decide)).trans (congrFun hfs2 _)
  have e1 := (read_cell arg6.view (harg6.unread da) 1 ![1] rfl inb_S2_S1_1 (by decide)).trans (congrFun hfs2 _)
  rw [← e0, ← e1]
  apply after_a

end Runs

end Cert.KernelIdeal.Hand

end
-- ==== Proof.Region.lean ====
/- The whole run of the kernel: point by point, the two row buffers fill up with every row's probability and loss, the totals add
   up, and the last point leaves one number. -/
module

public import proofs.«01_k».proof.Proof.Body
public import Idealize.ShloMosaic.Lib.Pipeline.ValueKit
public import Idealize.ShloMosaic.Lib.Pipeline.FrameSuffix

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem coord_eq (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The totals are reset at point 0 only. -/
theorem first_iff : ∀ t : Fin cfg0.N, atFirst (grid0.coords t) ↔ t.val = 0 := by decide +kernel
/-- The output is computed at point 15 only. -/
theorem last_iff : ∀ t : Fin cfg0.N, atLast (grid0.coords t) ↔ t.val = 15 := by decide +kernel

theorem idle_before : ∀ t : Fin cfg0.N, ¬atLast (grid0.coords t) → cfg0.idle 2 (grid0.coords t) = true := by decide +kernel
theorem kept_before : ∀ t : Fin cfg0.N, ¬atLast (grid0.coords t) → (cfg0.win 2).flush t = false := by decide +kernel
theorem live_last : ∀ t : Fin cfg0.N, atLast (grid0.coords t) → cfg0.idle 2 (grid0.coords t) = false := by decide +kernel

abbrev stgA (t : Fin cfg0.N) : Memref sig .tc .vmem S19x512x128 .bf16 := win0_0.stage (cfg0.slots t 0)
abbrev stgB (t : Fin cfg0.N) : Memref sig .tc .vmem S512x128 .i32 := win0_1.stage (cfg0.slots t 1)
abbrev stgC (t : Fin cfg0.N) : Memref sig .tc .vmem S1x1 .f32 := win0_2.stage (cfg0.slots t 2)
theorem wholeA (t : Fin cfg0.N) : (stgA t).IsWhole := hstage0_0 ((cfg0.slots t 0).cast nbuf0_0)
theorem wholeB (t : Fin cfg0.N) : (stgB t).IsWhole := hstage0_1 ((cfg0.slots t 1).cast nbuf0_1)
theorem wholeC (t : Fin cfg0.N) : (stgC t).IsWhole := hstage0_2 ((cfg0.slots t 2).cast nbuf0_2)
/-- The buffer of probabilities. -/
abbrev bufP : Memref sig .tc .vmem S8192x128 .f32 := Memref.whole cc0_scratch0
/-- The buffer of losses. -/
abbrev bufN : Memref sig .tc .vmem S8192x128 .f32 := Memref.whole cc0_scratch1
/-- The two totals. -/
abbrev bufT : Memref sig .tc .smem S2 .f32 := Memref.whole cc0_scratch2

/-- What the launch hands the region, with the kernel's own buffers named. -/
theorem launch_eq (c : Dev nD) :
    (Pipeline.ΦA spec0 c : sProp 𝕄)
      = iprop(iprop((∃ d, owns (c : Thread nD τ) bufP fullShare d) ∗ (∃ d, owns (c : Thread nD τ) bufN fullShare d) ∗
          (∃ d, owns (c : Thread nD τ) bufT fullShare d)) ∗ (∃ r, prngReg c r)) := by
  unfold Pipeline.ΦA
  rw [scopedRest0_eq]
  simp only [bufP, bufN, bufT, owns_whole]
  try rfl

/-! ## What the buffers hold -/

/-- The logits and labels of point `t`. -/
abbrev logits (c : Dev nD) (t : Fin cfg0.N) : Vec F S19x512x128 .bf16 := iblk m c 0 t
abbrev labels (c : Dev nD) (t : Fin cfg0.N) : Vec F S512x128 .i32 := iblk m c 1 t

/-- The point whose block holds row `y`. -/
def pointOf (y : S8192x128.Idx) : Fin cfg0.N := ⟨(y 0).val / 512, by
  have : (y 0).val < 8192 := (y 0).isLt
  rw [show cfg0.N = 16 from N_0]; omega⟩

/-- A row's place within its block. -/
def inBlock (y : S8192x128.Idx) : S512x128.Idx := ValueIdx.ix2 (⟨(y 0).val % 512, Nat.mod_lt _ (by decide)⟩ : Fin 512) (y 1 : Fin 128)

/-- Every row's probability. -/
def allP (c : Dev nD) : Vec F S8192x128 .f32 := fun y => k0_pay11 (logits m c (pointOf y)) (labels m c (pointOf y)) (inBlock y)
/-- Every row's loss. -/
def allN (c : Dev nD) : Vec F S8192x128 .f32 := fun y => k0_pay12 (logits m c (pointOf y)) (labels m c (pointOf y)) (inBlock y)

/-- The totals before point `n`. -/
def totals (c : Dev nD) : ℕ → Vec F S2 .f32
  | 0 => pair (FloatOps.ofBits .f32 0#32) (FloatOps.ofBits .f32 0#32)
  | n + 1 => if h : n < cfg0.N then
      totalsNext (totals c n (ValueIdx.ix1 0)) (totals c n (ValueIdx.ix1 1)) (logits m c ⟨n, h⟩) (labels m c ⟨n, h⟩) else totals c n

/-- The number the last point leaves. -/
def result (c : Dev nD) : Vec F S1x1 .f32 :=
  if isFew (totals m c 16 (ValueIdx.ix1 0)) then k0_pay5 (allP m c) (search (allP m c)).2 (allN m c)
  else k0_pay3 (totals m c 16 (ValueIdx.ix1 0)) (totals m c 16 (ValueIdx.ix1 1))

/-- What is known of the kernel's buffers before point `n`. -/
def Known (c : Dev nD) (n : ℕ) (dp dn : Vec F S8192x128 .f32) (da : Vec F S2 .f32) : Prop :=
  (∀ y, (y 0).val < 512 * n → dp y = allP m c y ∧ dn y = allN m c y) ∧ (0 < n → da = totals m c n)

theorem rows_step (c : Dev nD) (t : Fin cfg0.N) (d : Vec F S8192x128 .f32)
    (g : Vec F S19x512x128 .bf16 → Vec F S512x128 .i32 → Vec F S512x128 .f32)
    (hd : ∀ y, (y 0).val < 512 * t.val → d y = g (logits m c (pointOf y)) (labels m c (pointOf y)) (inBlock y)) (y : S8192x128.Idx)
    (hy : (y 0).val < 512 * (t.val + 1)) :
    rowsPut (grid0.coords t 0).val d (g (logits m c t) (labels m c t)) y = g (logits m c (pointOf y)) (labels m c (pointOf y)) (inBlock y) := by
  unfold rowsPut
  rw [coord_eq]
  split
  · next h =>
    have hp : pointOf y = t := Fin.ext (show (y 0).val / 512 = t.val by omega)
    rw [hp]
    congr 1
    have : (y 0).val - 512 * t.val = (y 0).val % 512 := by omega
    unfold inBlock
    simp only [this]
  · exact hd y (by omega)

theorem known_step (c : Dev nD) (t : Fin cfg0.N) (dp dn : Vec F S8192x128 .f32) (da : Vec F S2 .f32) (h : Known m c t.val dp dn da)
    (da' : Vec F S2 .f32) (hda : da' = totals m c (t.val + 1)) :
    Known m c (t.val + 1) (rowsPut (grid0.coords t 0).val dp (k0_pay11 (logits m c t) (labels m c t)))
      (rowsPut (grid0.coords t 0).val dn (k0_pay12 (logits m c t) (labels m c t))) da' :=
  ⟨fun y hy => ⟨rows_step m c t dp k0_pay11 (fun y hy => (h.1 y hy).1) y hy, rows_step m c t dn k0_pay12 (fun y hy => (h.1 y hy).2) y hy⟩,
    fun _ => hda⟩

theorem totals_succ (c : Dev nD) (t : Fin cfg0.N) :
    totals m c (t.val + 1) = totalsNext (totals m c t.val (ValueIdx.ix1 0)) (totals m c t.val (ValueIdx.ix1 1)) (logits m c t) (labels m c t) :=
  dif_pos t.isLt

/-- The region's invariant: the kernel's buffers at contents of which `Known` holds. -/
def Inv (c : Dev nD) (n : ℕ) : sProp 𝕄 :=
  iprop(∃ dp dn da, ⌜Known m c n dp dn da⌝ ∗ owns (c : Thread nD τ) bufP fullShare dp ∗ owns (c : Thread nD τ) bufN fullShare dn ∗
    owns (c : Thread nD τ) bufT fullShare da ∗ (∃ r, prngReg c r))

/-- The pipeline's proof data: the inputs stay, the output cell ends at `result`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result m c
  Φ t := Inv m c t.val
  q _ := fullShare
  owed _ := 0

theorem A_eq (c : Dev nD) (w : Fin cfg0.W) : (dats m 0 c).A w = V m c (Pipeline.arrRef spec0 w) := by dsimp only [dats]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = result m c := by dsimp only [dats]
theorem found_0 (c : Dev nD) (t : Fin cfg0.N) (d) : (dats m 0 c).before 0 t d = iblk m c 0 t :=
  before0_0_of m (dats m 0 c) (A_eq m c 0) (left_0 m c) t d
theorem found_1 (c : Dev nD) (t : Fin cfg0.N) (d) : (dats m 0 c).before 1 t d = iblk m c 1 t :=
  before0_1_of m (dats m 0 c) (A_eq m c 1) (left_1 m c) t d

theorem leaves_0 (c : Dev nD) (t : Fin cfg0.N) : (dats m 0 c).leavesExact 0 t = owns (c : Thread nD τ) (stgA t) fullShare (logits m c t) := by
  unfold Dat.leavesExact
  rw [show cfg0.idle 0 (grid0.coords t) = false from rfl, left_0]
theorem leaves_1 (c : Dev nD) (t : Fin cfg0.N) : (dats m 0 c).leavesExact 1 t = owns (c : Thread nD τ) (stgB t) fullShare (labels m c t) := by
  unfold Dat.leavesExact
  rw [show cfg0.idle 1 (grid0.coords t) = false from rfl, left_1]
theorem leaves_2 (c : Dev nD) (t : Fin cfg0.N) (h : atLast (grid0.coords t)) :
    (dats m 0 c).leavesExact 2 t = owns (c : Thread nD τ) (stgC t) fullShare (result m c) := by
  unfold Dat.leavesExact
  rw [live_last t h, left_2]

/-- The body's triple at a point. -/
def Before (c : Dev nD) (t : Fin cfg0.N) : sProp 𝕄 :=
  iprop((dats m 0 c).Φ t.castSucc ∗ (dats m 0 c).owesAt () t.castSucc
    ∗ (∃ d, owns (c : Thread nD τ) (stgA t) fullShare ((dats m 0 c).before 0 t d))
    ∗ (∃ d, owns (c : Thread nD τ) (stgB t) fullShare ((dats m 0 c).before 1 t d))
    ∗ (∃ d, owns (c : Thread nD τ) (stgC t) fullShare ((dats m 0 c).before 2 t d)))
def After (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- Over which values one of the last point's two branches is always taken. -/
def Decides (F : FTy → Type) [FloatOps F] : Prop := ∀ a : F .f32, isFew a ∨ isMany a

theorem last_result (hF : Decides F) (c : Dev nD) (t : Fin cfg0.N) (ht : t.val = 15) (dp dn : Vec F S8192x128 .f32) (d : Vec F S1x1 .f32)
    (hk : Known m c t.val dp dn (totals m c t.val)) :
    lastOut (rowsPut (grid0.coords t 0).val dp (k0_pay11 (logits m c t) (labels m c t)))
      (rowsPut (grid0.coords t 0).val dn (k0_pay12 (logits m c t) (labels m c t)))
      (totalsNext (totals m c t.val (ValueIdx.ix1 0)) (totals m c t.val (ValueIdx.ix1 1)) (logits m c t) (labels m c t)) d = result m c := by
  have h := known_step m c t dp dn _ hk _ rfl
  have hN : t.val + 1 = 16 := by omega
  have hp : rowsPut (grid0.coords t 0).val dp (k0_pay11 (logits m c t) (labels m c t)) = allP m c :=
    funext fun y => (h.1 y (by have : (y 0).val < 8192 := (y 0).isLt; omega)).1
  have hn : rowsPut (grid0.coords t 0).val dn (k0_pay12 (logits m c t) (labels m c t)) = allN m c :=
    funext fun y => (h.1 y (by have : (y 0).val < 8192 := (y 0).isLt; omega)).2
  rw [← totals_succ, hp, hn, hN]
  unfold lastOut result
  by_cases hfew : isFew (totals m c 16 (ValueIdx.ix1 0))
  · rw [if_pos hfew, if_pos hfew]
  · rw [if_neg hfew, if_neg hfew, if_pos ((hF _).resolve_left hfew)]

set_option maxHeartbeats 1600000 in
theorem body_sound (hF : Decides F) (c : Dev nD) (t : Fin cfg0.N) :
    Before m c t ⊢ wp frame (wpE (defs₀ (F := F)) Variants.none c none) Set.univ (bodyAt0 t) (fun _ => After m c t) := by
  unfold Before After bodyAt0
  simp only [found_0, found_1]
  rw [show (dats m 0 c).owesAt () t.succ = (dats m 0 c).owesAt () t.castSucc from rfl,
    show (dats m 0 c).Φ t.succ = Inv m c (t.val + 1) from rfl, show (dats m 0 c).Φ t.castSucc = Inv m c t.val from rfl]
  rw [leaves_0, leaves_1]
  unfold Inv
  have hN : t.val < 16 := lt_of_lt_of_eq t.isLt (show cfg0.N = 16 from N_0)
  by_cases h1 : atLast (grid0.coords t)
  · have ht : t.val = 15 := (last_iff t).mp h1
    have h0 : ¬atFirst (grid0.coords t) := fun h => by have := (first_iff t).mp h; omega
    rw [leaves_2 m c t h1]
    iintro ⟨⟨%dp, %dn, %da, %hk, HP, HN, HT, Hg⟩, Ho, ⟨%d0, H0⟩, ⟨%d1, H1⟩, ⟨%d2, H2⟩⟩
    obtain rfl : da = totals m c t.val := hk.2 (by omega)
    iapply (last_run c (grid0.coords t) _ (wholeA t) _ (wholeB t) _ (wholeC t) _ (Memref.isWhole_whole _) _ (Memref.isWhole_whole _)
      _ (Memref.isWhole_whole _) (logits m c t) (labels m c t) _ dp dn _ h0 h1 Set.univ _)
    rw [last_result m hF c t ht dp dn _ hk]
    isplitl [H0]; · iexact H0
    isplitl [H1]; · iexact H1
    isplitl [H2]; · iexact H2
    isplitl [HP]; · iexact HP
    isplitl [HN]; · iexact HN
    isplitl [HT]; · iexact HT
    iintro ⟨H0, H1, H2, HP, HN, HT⟩
    isplitl [HP HN HT Hg]
    · iexists _, _, _
      isplitr
      · ipureintro; exact known_step m c t dp dn _ hk _ (totals_succ m c t).symm
      isplitl [HP]; · iexact HP
      isplitl [HN]; · iexact HN
      isplitl [HT]; · iexact HT
      iexact Hg
    isplitl [Ho]; · iexact Ho
    isplitl [H0]; · iexact H0
    isplitl [H1]; · iexact H1
    iexact H2
  · rw [Dat.leavesExact_idle (dats m 0 c) 2 t (idle_before t h1) (kept_before t h1)]
    iintro ⟨⟨%dp, %dn, %da, %hk, HP, HN, HT, Hg⟩, Ho, ⟨%d0, H0⟩, ⟨%d1, H1⟩, ⟨%d2, H2⟩⟩
    by_cases h0 : atFirst (grid0.coords t)
    · have ht : t.val = 0 := (first_iff t).mp h0
      iapply (first_run c (grid0.coords t) _ (wholeA t) _ (wholeB t) _ (wholeC t) _ (Memref.isWhole_whole _) _ (Memref.isWhole_whole _)
        _ (Memref.isWhole_whole _) (logits m c t) (labels m c t) _ dp dn da h0 h1 Set.univ _)
      isplitl [H0]; · iexact H0
      isplitl [H1]; · iexact H1
      isplitl [H2]; · iexact H2
      isplitl [HP]; · iexact HP
      isplitl [HN]; · iexact HN
      isplitl [HT]; · iexact HT
      iintro ⟨H0, H1, H2, HP, HN, HT⟩
      isplitl [HP HN HT Hg]
      · iexists _, _, _
        isplitr
        · ipureintro
          exact known_step m c t dp dn _ hk _ (by rw [totals_succ, ht])
        isplitl [HP]; · iexact HP
        isplitl [HN]; · iexact HN
        isplitl [HT]; · iexact HT
        iexact Hg
      isplitl [Ho]; · iexact Ho
      isplitl [H0]; · iexact H0
      isplitl [H1]; · iexact H1
      iexists _; iexact H2
    · have ht : 0 < t.val := Nat.pos_of_ne_zero fun h => h0 ((first_iff t).mpr h)
      obtain rfl : da = totals m c t.val := hk.2 ht
      iapply (mid_run c (grid0.coords t) _ (wholeA t) _ (wholeB t) _ (wholeC t) _ (Memref.isWhole_whole _) _ (Memref.isWhole_whole _)
        _ (Memref.isWhole_whole _) (logits m c t) (labels m c t) _ dp dn _ h0 h1 Set.univ _)
      isplitl [H0]; · iexact H0
      isplitl [H1]; · iexact H1
      isplitl [H2]; · iexact H2
      isplitl [HP]; · iexact HP
      isplitl [HN]; · iexact HN
      isplitl [HT]; · iexact HT
      iintro ⟨H0, H1, H2, HP, HN, HT⟩
      isplitl [HP HN HT Hg]
      · iexists _, _, _
        isplitr
        · ipureintro
          exact known_step m c t dp dn _ hk _ (totals_succ m c t).symm
        isplitl [HP]; · iexact HP
        isplitl [HN]; · iexact HN
        isplitl [HT]; · iexact HT
        iexact Hg
      isplitl [Ho]; · iexact Ho
      isplitl [H0]; · iexact H0
      isplitl [H1]; · iexact H1
      iexists _; iexact H2

theorem row_eq (t : Fin cfg0.N) : defs₀ (F := F) .tc cfg0.body (cfg0.bodyArgs t (cfg0.slots t)) = bodyAt0 t := by
  unfold defs₀
  rw [Defs.onTc_tc]

theorem obligation (hF : Decides F) (c : Dev nD) : BodyObligation (dats (F := F) m 0 c) (defs₀ (F := F)) Variants.none () Set.univ := fun t => by
  rw [bigSep_W0, bigSep_W0, row_eq]
  exact triple_restated (body_sound m hF c t) rfl .rfl fun _ => .rfl

theorem enters (c : Dev nD) : Pipeline.ΦA spec0 c ⊢ (dats m 0 c).Φ 0 := by
  rw [show (dats m 0 c).Φ 0 = Inv m c 0 from rfl, launch_eq]
  unfold Inv
  iintro ⟨⟨⟨%dp, HP⟩, ⟨%dn, HN⟩, ⟨%da, HT⟩⟩, Hg⟩
  iexists dp, dn, da
  isplitr
  · ipureintro
    exact ⟨fun y h => absurd h (Nat.not_lt_zero _), fun h => absurd h (Nat.lt_irrefl 0)⟩
  isplitl [HP]; · iexact HP
  isplitl [HN]; · iexact HN
  isplitl [HT]; · iexact HT
  iexact Hg

theorem leaves (c : Dev nD) : (dats m 0 c).Φ (Fin.last cfg0.N) ⊢ Pipeline.ΦA spec0 c := by
  rw [show (dats m 0 c).Φ (Fin.last cfg0.N) = Inv m c (Fin.last cfg0.N).val from rfl, launch_eq]
  unfold Inv
  iintro ⟨%dp, %dn, %da, -, HP, HN, HT, Hg⟩
  isplitl [HP HN HT]
  · isplitl [HP]; · iexists _; iexact HP
    isplitl [HN]; · iexists _; iexact HN
    iexists _; iexact HT
  iexact Hg

set_option backward.isDefEq.respectTransparency.types false in
/-- The run: every array of the region at what the proof data computes, every other buffer as the later host lines leave it, every
    counter at zero. -/
theorem launched (hF : Decides F) : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m hF c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enters m) (hout := leaves m)

/-- The last point. -/
def tLast : Fin cfg0.N := ⟨15, by rw [show cfg0.N = 16 from N_0]; decide⟩

/-- The output array after the run. -/
theorem out_eq (c : Dev nD) : (dats m 0 c).arrAt 2 cfg0.N = result m c := by
  refine (dats m 0 c).arrAt_eq_of_after_last 2 tLast (by decide +kernel) _ fun j => ?_
  rw [left_2]
  rfl

/-- The result buffer after the run. -/
theorem tail_eq (c : Dev nD) :
    Pipeline.afterTail₀ cfgs (dats m) 0 (V0 m) [hostOps1] c main_v5 = shapeCast S_ (result m c) shapeCasts_S1x1_S_ := by
  unfold Pipeline.afterTail₀
  simp only [hostOps1, List.flatten_cons, List.flatten_nil, List.append_nil, StableHlo.after_cons, StableHlo.after_nil]
  rw [StableHlo.reshape_result]
  have e := Pipeline.withArrays_arr spec0 launch0.win.arr_inj c (V0 m c) (fun w => (dats m 0 c).arrAt w cfg0.N) 2
  rw [out_eq] at e
  exact congrArg (fun v : Vec F S1x1 .f32 => shapeCast S_ v shapeCasts_S1x1_S_) e

/-- The run of the kernel: its arguments unchanged, its result the number computed at the last point, and every counter at zero. -/
theorem run (hF : Decides F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v5) = shapeCast S_ (result m c) shapeCasts_S1x1_S_)
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_v5 (Pipeline.mem_restRefs_of main_v5 (by decide) (by decide))).trans (tail_eq m c)⟩, h.2⟩) (launched m ρ hF)

end Cert.KernelIdeal.Hand

end
-- ==== Proof.Frames.lean ====
/- The frames: the kernel over machine floats, the kernel over extended reals, and the reference each run to their end, leave their
   arguments as they were, and leave every counter at zero. -/
module

public import proofs.«01_k».proof.Proof.BitsFrame
public import proofs.«01_k».proof.Proof.Region
public import proofs.«01_k».proof.Proof.Gen.ReferenceIdeal.Run
public import Idealize.ShloMosaic.PureOps.Ideal

@[expose] public section

noncomputable section

namespace Cert.Hand

open Idealize.ShloMosaic Idealize.ShloMosaic.TcCoe Idealize.SL.Sem

/-- A comparison carried to 32 bits and tested against zero is the comparison. -/
theorem tested (b : BitVec 1) : (Scalar.cmpi .ne (Scalar.extui b) 0#32 = 1#1) ↔ b = 1#1 := by
  revert b; decide

/-- A truth value as a bit. -/
theorem ofBool_one (p : Prop) [Decidable p] : BitVec.ofBool (decide p) = 1#1 ↔ p := by
  by_cases h : p <;> simp [h]

/-- The kernel's test for the common branch, over extended reals. -/
theorem isMany_iff (a : Ideal .f32) : Cert.KernelIdeal.Hand.isMany (F := Ideal) a ↔ Ideal.ofBits .f32 0x47C35000#32 ≤ a := by
  unfold Cert.KernelIdeal.Hand.isMany
  rw [tested, Ideal.scalar_cmpf_def, Ideal.ofBits_def]
  simp only [Ideal.cmp, ofBool_one, ge_iff_le]

/-- The kernel's test for the rare branch, over extended reals. -/
theorem isFew_iff (a : Ideal .f32) : Cert.KernelIdeal.Hand.isFew (F := Ideal) a ↔ a < Ideal.ofBits .f32 0x47C35000#32 := by
  unfold Cert.KernelIdeal.Hand.isFew
  rw [tested, Ideal.scalar_cmpf_def, Ideal.ofBits_def]
  simp only [Ideal.cmp, ofBool_one, ge_iff_le]

/-- Over extended reals exactly one of the two branches is taken. -/
theorem decides : Cert.KernelIdeal.Hand.Decides Ideal := fun a => by
  rw [isMany_iff, isFew_iff]
  exact lt_or_ge _ _

/-- The kernel over extended reals leaves its arguments and its counters as a frame asks. -/
theorem ideal_frame (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.KernelIdeal.Hand.run (F := Ideal) m g decides)

/-- The reference leaves its arguments as they were; it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

end Cert.Hand

end
-- ==== Proof.Threshold.lean ====
/- Which rows are kept. The number of rows at most `x`, the K-th smallest probability by counting, the float words of the search, and why
   both branches of the kernel keep the rows that the reference keeps. -/
module

public import Idealize.ShloMosaic.PureOps.Ideal
public import Mathlib.Data.Fintype.Card

@[expose] public section

noncomputable section

namespace Cert.Hand

open Idealize.ShloMosaic
open scoped BigOperators

variable {ι : Type} [Fintype ι]

open Classical in
/-- How many of the numbers are at most `x`. -/
def upTo (p : ι → EReal) (x : EReal) : ℕ := (Finset.univ.filter fun i => p i ≤ x).card

/-- `q` is the `K`-th smallest of the numbers: at least `K` of them are at most `x` exactly when `q` is. -/
def IsKth (K : ℕ) (p : ι → EReal) (q : EReal) : Prop := ∀ x, q ≤ x ↔ K ≤ upTo p x

/-- Counting does not depend on how the numbers are indexed. -/
theorem upTo_equiv {κ : Type} [Fintype κ] (e : κ ≃ ι) (p : ι → EReal) (x : EReal) : upTo (fun k => p (e k)) x = upTo p x := by
  classical
  unfold upTo
  refine Finset.card_bij (fun k _ => e k) (fun k hk => by simpa using hk) (fun _ _ _ _ h => e.injective h) fun i hi => ?_
  exact ⟨e.symm i, by simpa using hi, by simp⟩

/-- The count as a sum of ones. -/
theorem upTo_sum (p : ι → EReal) (x : EReal) [∀ i, Decidable (p i ≤ x)] :
    (∑ i, if p i ≤ x then (1 : EReal) else 0) = ((upTo p x : ℕ) : EReal) := by
  classical
  unfold upTo
  rw [Finset.sum_boole]
  congr!

/-- The `K`-th entry of an ordered arrangement of the numbers is the `K`-th smallest. -/
theorem isKth_of_ordered {N : ℕ} (p : Fin N → EReal) (σ : Fin N → Fin N) (hσ : Function.Bijective σ)
    (hord : ∀ a b : Fin N, a < b → p (σ a) ≤ p (σ b)) (K : ℕ) (hK : 0 < K) (hKN : K ≤ N) :
    IsKth K p (p (σ ⟨K - 1, by omega⟩)) := by
  classical
  have hmono : ∀ a b : Fin N, a ≤ b → p (σ a) ≤ p (σ b) := fun a b h => by
    rcases h.lt_or_eq with h | h
    · exact hord a b h
    · rw [h]
  intro x
  have hcount : upTo p x = (Finset.univ.filter fun k => p (σ k) ≤ x).card := by
    rw [← upTo_equiv (Equiv.ofBijective σ hσ) p x]
    unfold upTo
    simp only [Equiv.ofBijective_apply]
  rw [hcount]
  constructor
  · intro hq
    have hsub : (Finset.univ.filter fun k : Fin N => k.val < K) ⊆ Finset.univ.filter fun k => p (σ k) ≤ x := by
      intro k hk
      simp only [Finset.mem_filter, Finset.mem_univ, true_and] at hk ⊢
      exact (hmono k ⟨K - 1, by omega⟩ (by rw [Fin.le_def]; show k.val ≤ K - 1; omega)).trans hq
    refine le_trans ?_ (Finset.card_le_card hsub)
    rw [Fin.card_filter_val_lt]
    omega
  · intro hcard
    by_contra hlt
    rw [not_le] at hlt
    have hsub : (Finset.univ.filter fun k => p (σ k) ≤ x) ⊆ Finset.univ.filter fun k : Fin N => k.val < K - 1 := by
      intro k hk
      simp only [Finset.mem_filter, Finset.mem_univ, true_and] at hk ⊢
      by_contra hge
      exact absurd ((hmono ⟨K - 1, by omega⟩ k (by rw [Fin.le_def]; show K - 1 ≤ k.val; omega)).trans hk) (not_le.mpr hlt)
    have := Finset.card_le_card hsub
    rw [Fin.card_filter_val_lt] at this
    omega

/-! ## The words of the search -/

/-- The float of the word `n`. -/
def floatOf (n : ℕ) : EReal := Ideal.ofBits .f32 (BitVec.ofNat 32 n)

/-- The word of one. -/
def oneWord : ℕ := 0x3F800000

/-- The float of a word below the infinities, by its exponent and fraction. -/
theorem floatOf_eq (n : ℕ) (hn : n < 0x7F800000) :
    floatOf n = ((if n / 2 ^ 23 = 0 then ((n % 2 ^ 23 : ℕ) : ℝ) * (2 : ℝ) ^ (-149 : ℤ)
      else ((2 ^ 23 + n % 2 ^ 23 : ℕ) : ℝ) * (2 : ℝ) ^ (((n / 2 ^ 23 : ℕ) : ℤ) - 150) : ℝ) : EReal) := by
  have hs : ((BitVec.ofNat 32 n).extractLsb' (8 + 23) 1 == 1#1) = false := by
    rw [beq_eq_false_iff_ne]
    intro h
    have := congrArg BitVec.toNat h
    simp only [BitVec.extractLsb'_toNat, BitVec.toNat_ofNat, Nat.shiftRight_eq_div_pow] at this
    omega
  have he : ((BitVec.ofNat 32 n).extractLsb' 23 8).toNat = n / 2 ^ 23 := by
    simp only [BitVec.extractLsb'_toNat, BitVec.toNat_ofNat, Nat.shiftRight_eq_div_pow]
    omega
  have hf : ((BitVec.ofNat 32 n).extractLsb' 0 23).toNat = n % 2 ^ 23 := by
    simp only [BitVec.extractLsb'_toNat, BitVec.toNat_ofNat, Nat.shiftRight_eq_div_pow]
    omega
  show Ideal.ieee 8 23 (BitVec.ofNat 32 n) = _
  unfold Ideal.ieee
  simp only [hs, he, hf]
  rw [if_neg (by omega)]
  generalize n / 2 ^ 23 = ex
  generalize n % 2 ^ 23 = fr
  have e1 : (1 - (2 ^ (8 - 1) - 1) - ((23 : ℕ) : ℤ)) = -149 := by norm_num
  have e2 : ((ex : ℤ) - (2 ^ (8 - 1) - 1) - ((23 : ℕ) : ℤ)) = (ex : ℤ) - 150 := by norm_num; ring
  rw [e1, e2]
  by_cases h : ex = 0
  · rw [if_pos h, if_pos h]; simp
  · rw [if_neg h, if_neg h]; simp

/-- Words up to that of one half are floats of at most one half. -/
theorem floatOf_le_half (n : ℕ) (hn : n ≤ 0x3F000000) : floatOf n ≤ ((1 / 2 : ℝ) : EReal) := by
  rw [floatOf_eq n (by omega)]
  have hfr : ((n % 2 ^ 23 : ℕ) : ℝ) ≤ 2 ^ 23 := by exact_mod_cast (Nat.mod_lt n (by norm_num)).le
  by_cases h : n / 2 ^ 23 = 0
  · rw [if_pos h]
    refine EReal.coe_le_coe_iff.mpr ?_
    calc ((n % 2 ^ 23 : ℕ) : ℝ) * (2 : ℝ) ^ (-149 : ℤ) ≤ 2 ^ 23 * (2 : ℝ) ^ (-149 : ℤ) := by gcongr
      _ ≤ 1 / 2 := by norm_num
  · rw [if_neg h]
    refine EReal.coe_le_coe_iff.mpr ?_
    by_cases h126 : n / 2 ^ 23 = 126
    · have : n % 2 ^ 23 = 0 := by omega
      rw [h126, this]; norm_num
    · have h125 : ((n / 2 ^ 23 : ℕ) : ℤ) - 150 ≤ -25 := by omega
      calc ((2 ^ 23 + n % 2 ^ 23 : ℕ) : ℝ) * (2 : ℝ) ^ (((n / 2 ^ 23 : ℕ) : ℤ) - 150)
          ≤ (2 ^ 24 : ℝ) * (2 : ℝ) ^ (-25 : ℤ) := by
            refine mul_le_mul ?_ (zpow_le_zpow_right₀ (by norm_num) h125) (by positivity) (by norm_num)
            have : 2 ^ 23 + n % 2 ^ 23 ≤ 2 ^ 24 := by omega
            exact_mod_cast this
        _ ≤ 1 / 2 := by norm_num

/-- Between the words of one half and one the floats are evenly spaced. -/
theorem floatOf_even (n : ℕ) (h1 : 0x3F000000 ≤ n) (h2 : n ≤ oneWord) :
    floatOf n = (((n - 0x3F000000 + 2 ^ 23 : ℕ) : ℝ) * (2 : ℝ) ^ (-24 : ℤ) : ℝ) := by
  unfold oneWord at h2
  rw [floatOf_eq n (by omega), if_neg (by omega)]
  by_cases h : n = 0x3F800000
  · rw [show n / 2 ^ 23 = 127 by omega, show 2 ^ 23 + n % 2 ^ 23 = 2 ^ 23 by omega, show n - 0x3F000000 + 2 ^ 23 = 2 ^ 24 by omega]
    norm_num
  · have e1 : n / 2 ^ 23 = 126 := by omega
    have e2 : 2 ^ 23 + n % 2 ^ 23 = n - 0x3F000000 + 2 ^ 23 := by omega
    rw [e1, e2]
    generalize n - 0x3F000000 + 2 ^ 23 = w
    norm_num

/-- One word's float and the next's, above one half. -/
theorem floatOf_step (n : ℕ) (h1 : 0x3F000000 < n) (h2 : n ≤ oneWord) :
    ∃ r : ℝ, floatOf (n - 1) = (r : EReal) ∧ floatOf n = ((r + (2 : ℝ) ^ (-24 : ℤ) : ℝ) : EReal) := by
  refine ⟨_, floatOf_even (n - 1) (by omega) (by omega), ?_⟩
  rw [floatOf_even n h1.le h2]
  congr 1
  rw [show n - 0x3F000000 + 2 ^ 23 = (n - 1 - 0x3F000000 + 2 ^ 23) + 1 by omega]
  push_cast; ring

theorem floatOf_one : floatOf oneWord = 1 := by
  rw [floatOf_even oneWord (by unfold oneWord; omega) le_rfl]
  unfold oneWord; norm_num

/-- The threshold 0.7 is above one half. -/
theorem half_lt_cut : ((1 / 2 : ℝ) : EReal) < Ideal.ofBits .f32 0x3F333333#32 := by
  show _ < floatOf 0x3F333333
  rw [floatOf_even _ (by norm_num) (by unfold oneWord; norm_num)]
  exact EReal.coe_lt_coe_iff.mpr (by norm_num)

/-! ## Both branches keep the reference's rows -/

/-- The gap the precondition asks for. -/
def gap : EReal := Ideal.ofBits .f32 0x33800000#32

theorem gap_eq : gap = (((2 : ℝ) ^ (-24 : ℤ) : ℝ) : EReal) := by
  show floatOf 0x33800000 = _
  rw [floatOf_eq _ (by norm_num)]
  norm_num

/-- The least word whose float has at least `K` of the numbers up to it keeps exactly the numbers up to the `K`-th smallest, when
    that is above 0.7 and no number is above it by less than the gap. -/
theorem keeps_same {K : ℕ} (p : ι → EReal) (q : EReal) (hq : IsKth K p q) (hcut : Ideal.ofBits .f32 0x3F333333#32 < q)
    (hsep : ∀ i, p i ≤ q ∨ q + gap ≤ p i) (b : ℕ) (hb : b ≤ oneWord) (hin : K ≤ upTo p (floatOf b))
    (hout : b = 0 ∨ ¬ K ≤ upTo p (floatOf (b - 1))) (i : ι) : p i ≤ floatOf b ↔ p i ≤ q := by
  have hqb : q ≤ floatOf b := (hq _).mpr hin
  have hbig : 0x3F000000 < b := by
    by_contra hle
    exact absurd ((floatOf_le_half b (by omega)).trans_lt (half_lt_cut.trans hcut)) (not_lt.mpr hqb)
  have hbelow : floatOf (b - 1) < q := by
    rcases hout with h | h
    · omega
    · exact not_le.mp fun h' => h ((hq _).mp h')
  obtain ⟨r, h1, h2⟩ := floatOf_step b hbig hb
  refine ⟨fun hi => ?_, fun hi => hi.trans hqb⟩
  rcases hsep i with h | h
  · exact h
  · exfalso
    rw [h1] at hbelow
    rw [h2] at hqb hi
    have hle := h.trans hi
    rw [gap_eq] at hle
    induction q using EReal.rec with
    | bot => exact absurd hbelow (by simp)
    | top => exact absurd (top_le_iff.mp hqb) (EReal.coe_ne_top _)
    | coe s =>
      rw [← EReal.coe_add] at hle
      have e1 := EReal.coe_le_coe_iff.mp hle
      have e2 := EReal.coe_lt_coe_iff.mp hbelow
      linarith

end Cert.Hand

end
-- ==== Proof.Search.lean ====
module

public import proofs.«01_k».proof.Proof.Body
public import proofs.«01_k».proof.Proof.Threshold
public import proofs.«01_k».proof.Proof.Frames
public import Idealize.ShloMosaic.Lib.Routing.Words
public import Idealize.ShloMosaic.Lib.Pointwise
public import Idealize.ShloMosaic.Lib.IndicatorCount

/-!
# The last grid point's arithmetic

What the kernel's last grid point computes from the probabilities and losses of all rows: the sum and the count over the
rows at or below a threshold, and the word that the search by halving ends at.
-/

@[expose] public section

set_option maxRecDepth 16384

noncomputable section

namespace Cert.KernelIdeal.Hand

open Cert.KernelIdeal.Gen Cert.Hand
open Idealize.ShloMosaic
open scoped BigOperators
/-- The kernel's sum of a whole array, by a reduction over both axes. -/
def sumAll {F : FTy → Type} [FloatOps F] (v : FVec F S8192x128 .f32) : F .f32 := extractAt ![0, 0, 0] (shapeCast S1x1x1 (multiReduction .add [1, 2] S1 (shapeCast S1x8192x128 v shapeCasts_S8192x128_S1x8192x128) 0x00000000#32 reduces_S1x8192x128_S1 (.inl rfl) rfl) shapeCasts_S1_S1x1x1) inpos_S1x1x1_p0_0_0
/-- It is the sum over rows and lanes. -/
theorem total_read (v : FVec Ideal S8192x128 .f32) : sumAll (F := Ideal) v = ∑ r : Fin 8192, ∑ l : Fin 128, v (ix2 r l) := by
  pointwise [sumAll, extractAt]
/-- A comparison as a number is one or zero. -/
theorem sitofp_bit (p : Prop) [Decidable p] : FloatOps.sitofp (F := Ideal) FTy.f32 (BitVec.setWidth 32 (BitVec.ofBool (decide p))) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 by decide]; norm_num
  · rw [if_neg h, decide_eq_false h]
    show (((BitVec.setWidth 32 (BitVec.ofBool false)).toInt : ℝ) : EReal) = 0
    rw [show (BitVec.setWidth 32 (BitVec.ofBool false)).toInt = 0 by decide]; norm_num
/-- The kernel's mean, as a quotient of two such sums. -/
theorem pay5_split {F : FTy → Type} [FloatOps F] (P L : Vec F S8192x128 .f32) (b : BitVec 32) (j : S1x1.Idx) :
    k0_pay5 P b L j = Scalar.divf (sumAll (select (cmpf .ole P (broadcast S8192x128 (Scalar.ofBits .f32 b))) L (broadcast S8192x128 (Scalar.ofBits .f32 0x00000000#32))))
      (Scalar.maximumf (sumAll (sitofp .f32 (extui 32 (cmpf .ole P (broadcast S8192x128 (Scalar.ofBits .f32 b))) natLt_1_32))) (Scalar.ofBits .f32 0x3F800000#32)) := by
  unfold k0_pay5 sumAll
  rfl
/-- The sum of the losses kept. -/
theorem kept_sum (P L : Vec Ideal S8192x128 .f32) (x : Ideal .f32) :
    sumAll (F := Ideal) (select (cmpf .ole P (broadcast S8192x128 x)) L (broadcast S8192x128 (Scalar.ofBits .f32 0x00000000#32))) = ∑ r : Fin 8192, ∑ l : Fin 128, if P (ix2 r l) ≤ x then L (ix2 r l) else 0 := by
  rw [total_read]
  refine Finset.sum_congr rfl fun r _ => Finset.sum_congr rfl fun l _ => ?_
  pointwise
/-- The number of losses kept. -/
theorem kept_count (P : Vec Ideal S8192x128 .f32) (x : Ideal .f32) :
    sumAll (F := Ideal) (sitofp .f32 (extui 32 (cmpf .ole P (broadcast S8192x128 x)) natLt_1_32)) = ∑ r : Fin 8192, ∑ l : Fin 128, if P (ix2 r l) ≤ x then (1 : EReal) else 0 := by
  rw [total_read]
  refine Finset.sum_congr rfl fun r _ => Finset.sum_congr rfl fun l _ => ?_
  pointwise
  rw [sitofp_bit]
/-- The quotient by the count, where the count is taken to be at least one. -/
theorem mean_read (s c : Ideal .f32) : Scalar.divf (F := Ideal) (φ := .f32) s (Scalar.maximumf c (Scalar.ofBits .f32 0x3F800000#32)) = Ideal.div s (max c 1) := by
  rw [← Ideal.ofBits_one_f32]; rfl
/-- The kernel's result when few probabilities are low: the mean over the probabilities up to the word found. -/
theorem pay5_read (P L : Vec Ideal S8192x128 .f32) (b : BitVec 32) (j : S1x1.Idx) :
    k0_pay5 (F := Ideal) P b L j = Ideal.div (∑ r : Fin 8192, ∑ l : Fin 128, if P (ix2 r l) ≤ Ideal.ofBits .f32 b then L (ix2 r l) else 0)
      (max (∑ r : Fin 8192, ∑ l : Fin 128, if P (ix2 r l) ≤ Ideal.ofBits .f32 b then (1 : EReal) else 0) 1) := by
  rw [pay5_split, kept_sum, kept_count]
  exact mean_read _ _
/-- The kernel's result when many probabilities are low: the sum over the count. -/
theorem pay3_read (a b : Ideal .f32) (j : S1x1.Idx) : k0_pay3 (F := Ideal) a b j = Ideal.div b a := rfl

/-- The kernel's count of the set bits of a whole array. -/
def countAll (v : IVec S8192x128 1) : BitVec 32 := extractAt ![0, 0, 0] (shapeCast S1x1x1 (multiReductionI .add [1, 2] S1 (shapeCast S1x8192x128 (extui 32 v natLt_1_32) shapeCasts_S8192x128_S1x8192x128) 0#32 reduces_S1x8192x128_S1 rfl) shapeCasts_S1_S1x1x1) inpos_S1x1x1_p0_0_0
/-- It is the number of set bits. -/
theorem count_read (v : IVec S8192x128 1) : countAll v = BitVec.ofNat 32 ((Finset.univ : Finset (Fin 8192 × Fin 128)).filter fun x => v (ix2 x.1 x.2) = 1#1).card := by
  rw [← IndicatorCount.fold_addi_setWidth_eq_card]
  pointwise [countAll, extractAt]
/-- One halving, with the count of the probabilities up to the middle word in it. -/
theorem halve_split (P : Vec Ideal S8192x128 .f32) (s : BitVec 32 × BitVec 32) :
    halve (F := Ideal) P s = (Scalar.select (Scalar.cmpi .sge (countAll (cmpf .ole P (broadcast S8192x128 (Ideal.ofBits .f32 (middle s))))) 100000#32) s.1 (Scalar.addi (middle s) 1#32),
     Scalar.select (Scalar.cmpi .sge (countAll (cmpf .ole P (broadcast S8192x128 (Ideal.ofBits .f32 (middle s))))) 100000#32) (middle s) s.2) := rfl

/-- A number below the signed bound is what its word reads back as. -/
theorem toInt_word (n : ℕ) (h : n < 2 ^ 31) : (BitVec.ofNat 32 n).toInt = n := by
  rw [BitVec.toInt_eq_toNat_cond, BitVec.toNat_ofNat, Nat.mod_eq_of_lt (by omega), if_pos (by omega)]

/-- A bit that is not one is zero. -/
theorem bit_zero (b : BitVec 1) (h : ¬ b = 1#1) : b = 0#1 := by
  revert b; decide

/-- The middle word is the half of the sum of the ends. -/
theorem middle_word (a b : ℕ) (h : a + b < 2 ^ 31) : middle (BitVec.ofNat 32 a, BitVec.ofNat 32 b) = BitVec.ofNat 32 ((a + b) / 2) := by
  have hv : Scalar.addi (BitVec.ofNat 32 a) (BitVec.ofNat 32 b) = BitVec.ofNat 32 (a + b) := (BitVec.ofNat_add _ _).symm
  unfold middle
  rw [hv]
  dsimp only
  have hd : Scalar.divsi (BitVec.ofNat 32 (a + b)) 2#32 = BitVec.ofNat 32 ((a + b) / 2) := Routing.divsi_word .scalar h (by norm_num) (by norm_num)
  rw [hd]
  generalize a + b = n at h ⊢
  rcases Nat.eq_zero_or_pos n with rfl | hn
  · decide
  · have hi : (BitVec.ofNat 32 n).toInt = n := toInt_word n h
    have h1 : Scalar.cmpi .sgt (BitVec.ofNat 32 n) 0#32 = 1#1 := by
      show BitVec.ofBool ((0#32).slt (BitVec.ofNat 32 n)) = 1#1
      rw [BitVec.slt_eq_decide, ofBool_one, hi]
      show (0 : ℤ) < _
      omega
    have h2 : Scalar.cmpi .slt (BitVec.ofNat 32 n) 0#32 = 0#1 := by
      refine bit_zero _ ?_
      show ¬ BitVec.ofBool ((BitVec.ofNat 32 n).slt 0#32) = 1#1
      rw [BitVec.slt_eq_decide, ofBool_one, hi]
      show ¬ (_ : ℤ) < 0
      omega
    rw [h1, h2]
    have h3 : ∀ x : BitVec 1, Scalar.andi (Scalar.cmpi .ne (Scalar.subi (Scalar.extui 1#1) (Scalar.extui 0#1))
        (Scalar.subi (Scalar.extui (Scalar.cmpi .sgt 2#32 0#32)) (Scalar.extui (Scalar.cmpi .slt 2#32 0#32)))) x = 0#1 := by decide
    rw [h3]
    rfl

/-- The probabilities as a family over rows and lanes. -/
def flat (P : Vec Ideal S8192x128 .f32) : Fin 8192 × Fin 128 → EReal := fun x => P (ix2 x.1 x.2)

/-- The bit of a comparison with a constant array. -/
theorem bit_read (P : Vec Ideal S8192x128 .f32) (x : Ideal .f32) (y : S8192x128.Idx) :
    cmpf .ole P (broadcast S8192x128 x) y = 1#1 ↔ P y ≤ x :=
  ofBool_one _

/-- The test of one halving: at least 100000 probabilities are up to the word. -/
theorem enough_iff (P : Vec Ideal S8192x128 .f32) (n : ℕ) :
    Scalar.cmpi .sge (countAll (cmpf .ole P (broadcast S8192x128 (Ideal.ofBits .f32 (BitVec.ofNat 32 n))))) 100000#32 = 1#1
      ↔ 100000 ≤ upTo (flat P) (floatOf n) := by
  have hc : ((Finset.univ : Finset (Fin 8192 × Fin 128)).filter fun x => cmpf .ole P (broadcast S8192x128 (Ideal.ofBits .f32 (BitVec.ofNat 32 n))) (ix2 x.1 x.2) = 1#1).card
      = upTo (flat P) (floatOf n) := by
    unfold upTo
    refine congrArg Finset.card (Finset.ext fun x => ?_)
    simp only [Finset.mem_filter, Finset.mem_univ, true_and]
    refine (bit_read P (Ideal.ofBits .f32 (BitVec.ofNat 32 n)) (ix2 x.1 x.2)).trans ?_
    unfold flat floatOf
    exact Iff.rfl
  rw [count_read, hc]
  have hle : upTo (flat P) (floatOf n) ≤ 8192 * 128 := by
    unfold upTo
    exact (Finset.card_le_univ _).trans (by simp)
  generalize upTo (flat P) (floatOf n) = k at hle ⊢
  have hi : (BitVec.ofNat 32 k).toInt = k := toInt_word k (by omega)
  show BitVec.ofBool ((100000#32).sle (BitVec.ofNat 32 k)) = 1#1 ↔ _
  rw [BitVec.sle_eq_decide, ofBool_one, hi]
  show (100000 : ℤ) ≤ _ ↔ _
  omega

/-- What holds of the two ends after `k` halvings: they enclose the least word with enough probabilities up to it. -/
def Encloses (P : Vec Ideal S8192x128 .f32) (k : ℕ) (s : BitVec 32 × BitVec 32) : Prop :=
  ∃ lo hi : ℕ, s = (BitVec.ofNat 32 lo, BitVec.ofNat 32 hi) ∧ lo ≤ hi ∧ hi ≤ oneWord ∧ (hi - lo) * 2 ^ k ≤ oneWord
    ∧ 100000 ≤ upTo (flat P) (floatOf hi) ∧ (lo = 0 ∨ ¬ 100000 ≤ upTo (flat P) (floatOf (lo - 1)))

/-- One halving keeps the enclosure and halves it. -/
theorem halve_encloses (P : Vec Ideal S8192x128 .f32) (k : ℕ) (s : BitVec 32 × BitVec 32) (h : Encloses P k s) :
    Encloses P (k + 1) (halve (F := Ideal) P s) := by
  obtain ⟨lo, hi, rfl, hlh, hone, hw, hin, hout⟩ := h
  have hb : oneWord < 2 ^ 30 := by unfold oneWord; norm_num
  have hm := middle_word lo hi (by omega)
  rw [halve_split, hm]
  have hpow : ∀ x y : ℕ, x ≤ y / 2 → x * 2 ^ (k + 1) ≤ y * 2 ^ k := by
    intro x y hxy
    calc x * 2 ^ (k + 1) = 2 * x * 2 ^ k := by ring
      _ ≤ y * 2 ^ k := Nat.mul_le_mul_right _ (by omega)
  by_cases he : 100000 ≤ upTo (flat P) (floatOf ((lo + hi) / 2))
  · rw [(enough_iff P _).mpr he]
    exact ⟨lo, (lo + hi) / 2, rfl, by omega, by omega, (hpow _ _ (by omega)).trans hw, he, hout⟩
  · have hz := bit_zero _ (fun e => he ((enough_iff P _).mp e))
    rw [hz]
    have hlt : (lo + hi) / 2 < hi := by
      rcases Nat.lt_or_ge ((lo + hi) / 2) hi with h | h
      · exact h
      · exfalso
        have : (lo + hi) / 2 = hi := by omega
        rw [this] at he; exact he hin
    refine ⟨(lo + hi) / 2 + 1, hi, ?_, by omega, hone, (hpow _ _ (by omega)).trans hw, hin, .inr ?_⟩
    · refine Prod.ext ?_ rfl
      exact (BitVec.ofNat_add _ _).symm
    · rw [Nat.add_sub_cancel]; exact he

/-- The search makes 31 halvings. -/
theorem trips_eq : k0_t1_loop.trips = 31 := by decide

/-- A fold that takes what holds after `k` steps to what holds after `k + 1` ends with what holds after all. -/
theorem foldl_steps {σ : Type} (g : σ → σ) (Inv : ℕ → σ → Prop) (hg : ∀ k s, Inv k s → Inv (k + 1) (g s)) {α : Type} :
    ∀ (l : List α) (k : ℕ) (s : σ), Inv k s → Inv (k + l.length) (l.foldl (fun acc _ => g acc) s)
  | [], _, _, h => h
  | _ :: l, k, s, h => by
    have := foldl_steps g Inv hg l (k + 1) (g s) (hg k s h)
    rw [List.length_cons, show k + (l.length + 1) = k + 1 + l.length by omega]
    exact this

/-- The search ends at the least word with at least 100000 probabilities up to it. -/
theorem search_least (P : Vec Ideal S8192x128 .f32) (h1 : ∀ y, P y ≤ 1) :
    ∃ b : ℕ, (search (F := Ideal) P).2 = BitVec.ofNat 32 b ∧ b ≤ oneWord ∧ 100000 ≤ upTo (flat P) (floatOf b)
      ∧ (b = 0 ∨ ¬ 100000 ≤ upTo (flat P) (floatOf (b - 1))) := by
  have hall : 100000 ≤ upTo (flat P) (floatOf oneWord) := by
    have : upTo (flat P) (floatOf oneWord) = 8192 * 128 := by
      unfold upTo
      rw [Finset.filter_true_of_mem]
      · simp
      · intro x _; rw [floatOf_one]; exact h1 _
    omega
  have h0 : Encloses P 0 (0#32, 1065353216#32) :=
    ⟨0, oneWord, rfl, Nat.zero_le _, le_rfl, by simp, hall, .inl rfl⟩
  have hf := foldl_steps (halve (F := Ideal) P) (Encloses P) (halve_encloses P) (List.finRange k0_t1_loop.trips) 0 _ h0
  unfold search
  rw [Scf.fold_eq]
  rw [List.length_finRange, trips_eq] at hf
  obtain ⟨lo, hi, hs, hlh, hone, hw, hin, hout⟩ := hf
  have hb : oneWord < 2 ^ 30 := by unfold oneWord; norm_num
  have he : lo = hi := by
    by_contra hne
    have : 1 ≤ hi - lo := by omega
    have := Nat.mul_le_mul_right (2 ^ (0 + 31)) this
    have h31 : (2 : ℕ) ^ (0 + 31) = 2 ^ 30 * 2 := by norm_num
    omega
  subst he
  refine ⟨lo, ?_, hone, hin, hout⟩
  exact congrArg Prod.snd hs

end Cert.KernelIdeal.Hand

end
-- ==== Proof.Row.lean ====
/- One row's softmax over the extended reals: taking the largest logit off every logit first, as the reference does, changes neither the
   probability of a label nor its loss. -/
module

public import Idealize.ShloMosaic.PureOps.Ideal
public import Mathlib.Analysis.SpecialFunctions.Log.Basic

@[expose] public section

noncomputable section

namespace Cert.Hand

open Idealize.ShloMosaic
open scoped BigOperators

/-- A row whose largest logit is finite: some logit is above minus infinity and none is plus infinity. -/
def RowOk (x : Fin 19 → EReal) : Prop := (∃ k, x k ≠ ⊥) ∧ ∀ k, x k ≠ ⊤

/-- The largest logit. -/
def top (x : Fin 19 → EReal) : EReal := Finset.univ.fold max ⊥ x

/-- The label's probability: its exponential over the sum of the exponentials. -/
def prob (x : Fin 19 → EReal) (t : Fin 19) : EReal := Ideal.div (Ideal.exp (x t)) (∑ k, Ideal.exp (x k))

/-- The label's loss. -/
def loss (x : Fin 19 → EReal) (t : Fin 19) : EReal := Ideal.log (∑ k, Ideal.exp (x k)) - x t

theorem top_eq_sup (x : Fin 19 → EReal) : top x = Finset.univ.sup x := rfl

theorem le_top' (x : Fin 19 → EReal) (k : Fin 19) : x k ≤ top x := by
  rw [top_eq_sup]; exact Finset.le_sup (Finset.mem_univ k)

theorem top_real (x : Fin 19 → EReal) (hx : RowOk x) : ∃ μ : ℝ, top x = μ := by
  obtain ⟨⟨k, hk⟩, hall⟩ := hx
  have h1 : top x ≠ ⊥ := fun h => hk (le_bot_iff.mp (h ▸ le_top' x k))
  have h2 : top x ≠ ⊤ := by
    rw [top_eq_sup]
    exact ((Finset.sup_lt_iff (by exact bot_lt_top)).mpr fun k _ => lt_top_iff_ne_top.mpr (hall k)).ne
  exact ⟨(top x).toReal, (EReal.coe_toReal h2 h1).symm⟩

/-- A row is good when its largest logit is finite. -/
theorem rowOk_of_top (x : Fin 19 → EReal) (h1 : ⊥ < top x) (h2 : top x < ⊤) : RowOk x := by
  refine ⟨?_, fun k h => (lt_of_le_of_lt (le_top' x k) h2).ne h⟩
  by_contra hno
  push Not at hno
  refine h1.ne' ?_
  rw [top_eq_sup]
  exact (Finset.sup_eq_bot_iff _ _).mpr fun k _ => hno k

/-- The exponential of a logit that is not plus infinity, as a real number. -/
theorem exp_real (y : EReal) (hy : y ≠ ⊤) : ∃ a : ℝ, 0 ≤ a ∧ Ideal.exp y = a ∧ ∀ μ : ℝ, Ideal.exp (y - μ) = ((a * Real.exp (-μ) : ℝ) : EReal) := by
  induction y using EReal.rec with
  | bot => exact ⟨0, le_rfl, rfl, fun μ => by rw [EReal.bot_sub, zero_mul]; rfl⟩
  | coe r =>
    refine ⟨Real.exp r, (Real.exp_pos r).le, rfl, fun μ => ?_⟩
    rw [← EReal.coe_sub, ← Real.exp_add, ← sub_eq_add_neg]; rfl
  | top => exact absurd rfl hy

theorem exp_pos_of (y : EReal) (hy : y ≠ ⊥) : 0 < Ideal.exp y := by
  induction y using EReal.rec with
  | bot => exact absurd rfl hy
  | coe r => exact EReal.coe_pos.mpr (Real.exp_pos r)
  | top => exact EReal.coe_lt_top 0

/-- A finite sum of reals, as an extended real. -/
theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The quantities of a good row, as real numbers: `a k` is the exponential of logit `k`, `A > 0` their sum and `μ` the largest logit. -/
theorem row_reals (x : Fin 19 → EReal) (hx : RowOk x) : ∃ (μ A : ℝ) (a : Fin 19 → ℝ), top x = μ ∧ 0 < A ∧ (∀ k, 0 ≤ a k ∧ a k ≤ A) ∧
    (∀ k, Ideal.exp (x k) = a k) ∧ (∑ k, Ideal.exp (x k)) = A ∧ (∀ k, Ideal.exp (x k - top x) = ((a k * Real.exp (-μ) : ℝ) : EReal)) ∧
    (∑ k, Ideal.exp (x k - top x)) = ((A * Real.exp (-μ) : ℝ) : EReal) := by
  obtain ⟨μ, hμ⟩ := top_real x hx
  choose a ha0 hae hal using fun k => exp_real (x k) (hx.2 k)
  obtain ⟨k₀, hk₀⟩ := hx.1
  have hpos : 0 < a k₀ := by
    have := exp_pos_of (x k₀) hk₀
    rw [hae] at this
    exact EReal.coe_pos.mp this
  have hle : ∀ k, a k ≤ ∑ j, a j := fun k => Finset.single_le_sum (fun j _ => ha0 j) (Finset.mem_univ k)
  refine ⟨μ, ∑ k, a k, a, hμ, lt_of_lt_of_le hpos (hle k₀), fun k => ⟨ha0 k, hle k⟩, hae, ?_, fun k => by rw [hμ]; exact hal k μ, ?_⟩
  · rw [← sum_coe]; exact Finset.sum_congr rfl fun k _ => hae k
  · rw [Finset.sum_mul, ← sum_coe]; exact Finset.sum_congr rfl fun k _ => by rw [hμ]; exact hal k μ

/-- Dividing reals. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem log_real (a : ℝ) (ha : 0 < a) : Ideal.log (a : EReal) = (Real.log a : EReal) := by
  show (if a ≤ 0 then ⊥ else (Real.log a : EReal)) = _
  rw [if_neg (not_le.mpr ha)]

/-- The probability by the shifted exponentials is the probability. -/
theorem prob_shift (x : Fin 19 → EReal) (hx : RowOk x) (t : Fin 19) :
    Ideal.div (Ideal.exp (x t - top x)) (∑ k, Ideal.exp (x k - top x)) = prob x t := by
  obtain ⟨μ, A, a, hμ, hA, ha, e1, e2, e3, e4⟩ := row_reals x hx
  have hE := Real.exp_pos (-μ)
  unfold prob
  rw [e4, e3, e2, e1, div_real _ _ (mul_pos hA hE).ne', div_real _ _ hA.ne', mul_div_mul_right _ _ hE.ne']

/-- The probability is at most one. -/
theorem prob_le_one (x : Fin 19 → EReal) (hx : RowOk x) (t : Fin 19) : prob x t ≤ 1 := by
  obtain ⟨μ, A, a, hμ, hA, ha, e1, e2, e3, e4⟩ := row_reals x hx
  unfold prob
  rw [e2, e1, div_real _ _ hA.ne']
  exact_mod_cast (div_le_one hA).mpr (ha t).2

/-- The loss by the shifted logits is the loss. -/
theorem loss_shift (x : Fin 19 → EReal) (hx : RowOk x) (t : Fin 19) :
    -((x t - top x) - Ideal.log (∑ k, Ideal.exp (x k - top x))) = loss x t := by
  obtain ⟨μ, A, a, hμ, hA, ha, e1, e2, e3, e4⟩ := row_reals x hx
  have hE := Real.exp_pos (-μ)
  unfold loss
  rw [e4, e2, log_real _ (mul_pos hA hE), log_real _ hA, Real.log_mul hA.ne' hE.ne', Real.log_exp, hμ]
  have ht := hx.2 t
  generalize x t = y at ht
  induction y using EReal.rec with
  | bot => simp [sub_eq_add_neg]
  | coe r =>
    rw [← EReal.coe_sub, ← EReal.coe_sub, ← EReal.coe_sub, ← EReal.coe_neg]
    congr 1; ring
  | top => exact absurd rfl ht

end Cert.Hand

end
-- ==== Proof.Blocks.lean ====
module

public import proofs.«01_k».proof.Proof.Region
public import proofs.«01_k».proof.Proof.Search
public import proofs.«01_k».proof.Proof.Row
public import Idealize.ShloMosaic.Lib.Claim

/-!
# The kernel's arrays in terms of its arguments

Each grid point sees 512 times 128 rows of the argument. Here every row's probability and loss, and the two totals, are
read off the arguments.
-/

@[expose] public section

set_option maxRecDepth 16384

noncomputable section

namespace Cert.Hand

open Idealize.ShloMosaic
open scoped BigOperators

/-- The logits of row `n`. -/
def rowX (A : FVec Ideal Cert.KernelIdeal.S1048576x19 .f32) (n : Fin 1048576) : Fin 19 → EReal := fun k => A (ix2 n k)

/-- The label of row `n`, as a class. -/
def label (T : IVec Cert.KernelIdeal.S1048576 32) (n : Fin 1048576) : Fin 19 := Fin.ofNat 19 (T (ix1 n)).toNat

/-- A row of the argument by its place in the kernel's arrays. -/
def rowAt : Fin 8192 × Fin 128 ≃ Fin 1048576 := finProdFinEquiv.trans (finCongr (by norm_num))

theorem rowAt_val (r : Fin 8192) (l : Fin 128) : (rowAt (r, l)).val = r.val * 128 + l.val := by
  show l.val + 128 * r.val = _
  omega

/-- The sum over the classes of the logits at the label is the logit of the label. -/
theorem pick_label (w : BitVec 32) (hw : w.toNat < 19) (f : Fin 19 → EReal) :
    (∑ k : Fin 19, Scalar.select (IntOp.cmpi .eq (BitVec.ofNat 32 k.val) w) (f k) 0) = f (Fin.ofNat 19 w.toNat) := by
  have hk : ∀ k : Fin 19, (IntOp.cmpi .eq (BitVec.ofNat 32 k.val) w = 1#1) ↔ k = Fin.ofNat 19 w.toNat := by
    intro k
    have h1 : (IntOp.cmpi .eq (BitVec.ofNat 32 k.val) w = 1#1) ↔ BitVec.ofNat 32 k.val = w := by
      show BitVec.ofBool (BitVec.ofNat 32 k.val == w) = 1#1 ↔ _
      rw [← beq_iff_eq (a := BitVec.ofNat 32 k.val)]
      cases (BitVec.ofNat 32 k.val == w) <;> simp
    rw [h1, ← BitVec.toNat_inj, BitVec.toNat_ofNat, Nat.mod_eq_of_lt (by omega), Fin.ext_iff]
    show _ ↔ k.val = w.toNat % 19
    rw [Nat.mod_eq_of_lt hw]
  rw [Finset.sum_eq_single (Fin.ofNat 19 w.toNat)]
  · unfold Scalar.select
    exact if_pos ((hk _).mpr rfl)
  · intro k _ hne
    unfold Scalar.select
    exact if_neg (fun e => hne ((hk k).mp e))
  · intro h; exact absurd (Finset.mem_univ _) h

/-- A sequence that adds 512 terms a step is, after 16 steps, the sum of all the terms. -/
theorem sum_blocks (f : Fin 8192 → EReal) (s : ℕ → EReal) (h0 : s 0 = 0)
    (hs : ∀ n (h : n < 16), s (n + 1) = s n + ∑ r : Fin 512, f ⟨n * 512 + r.val, by omega⟩) : s 16 = ∑ r, f r := by
  have key : ∀ n, n ≤ 16 → s n = ∑ r ∈ Finset.range (n * 512), if h : r < 8192 then f ⟨r, h⟩ else 0 := by
    intro n
    induction n with
    | zero => intro _; rw [h0]; simp
    | succ n ih =>
      intro hn
      rw [hs n (by omega), ih (by omega), Nat.succ_mul, Finset.sum_range_add]
      congr 1
      rw [Finset.sum_range]
      refine Finset.sum_congr rfl fun r _ => ?_
      rw [dif_pos (by omega)]
  rw [key 16 le_rfl, show 16 * 512 = 8192 from rfl, Finset.sum_range]
  refine Finset.sum_congr rfl fun r _ => ?_
  rw [dif_pos r.isLt]

end Cert.Hand

namespace Cert.KernelIdeal.Hand

open Cert.KernelIdeal.Gen Cert.Hand
open Idealize.ShloMosaic Idealize.ShloMosaic.TcCoe
open scoped BigOperators

/-- Point `t` sees the logits of the `t`-th 512 groups of 128 rows. -/
theorem index_0 : ∀ t : Fin cfg0.N, win0_0.index t = ![0, t.val, 0] := by decide +kernel
/-- Point `t` sees the labels of the `t`-th 512 groups of 128 rows. -/
theorem index_1 : ∀ t : Fin cfg0.N, win0_1.index t = ![t.val, 0] := by decide +kernel

variable (m : (ℓ : Loc nD τ sig) → Buf (Elt Ideal) ℓ) (c : Dev nD)

/-- The logits as the region finds them. -/
theorem logits_entry (k : Fin 19) (r : Fin 8192) (l : Fin 128) :
    V m c main_v2 (ix3 k r l) = rowX (m ((c : Thread nD τ).loc main_arg0)) (rowAt (r, l)) k := by
  rw [show V m c main_v2 = StableHlo.after hostOps0 (fun b => m (c, b)) (Proc.tc.devRef main_v2) from rfl]
  unfold hostOps0
  after_results
  pointwise
  unfold rowX
  rw [show rowAt (r, l) = ⟨r.val * 128 + l.val, by omega⟩ from Fin.ext (rowAt_val r l)]

/-- The labels as the region finds them. -/
theorem labels_entry (r : Fin 8192) (l : Fin 128) :
    V m c main_v3 (ix2 r l) = m ((c : Thread nD τ).loc main_arg1) (ix1 (rowAt (r, l))) := by
  rw [show V m c main_v3 = StableHlo.after hostOps0 (fun b => m (c, b)) (Proc.tc.devRef main_v3) from rfl]
  unfold hostOps0
  after_results
  pointwise
  rw [show rowAt (r, l) = ⟨r.val * 128 + l.val, by omega⟩ from Fin.ext (rowAt_val r l)]

/-- The logits of a point's block. -/
theorem logits_read (t : Fin cfg0.N) (k : Fin 19) (r : Fin 512) (l : Fin 128) (R : Fin 8192) (hR : R.val = t.val * 512 + r.val) :
    logits m c t (ix3 k r l) = rowX (m ((c : Thread nD τ).loc main_arg0)) (rowAt (R, l)) k := by
  rw [← logits_entry m c]
  unfold logits
  blk_ext [iblk, index_0]

/-- The labels of a point's block. -/
theorem labels_read (t : Fin cfg0.N) (r : Fin 512) (l : Fin 128) (R : Fin 8192) (hR : R.val = t.val * 512 + r.val) :
    labels m c t (ix2 r l) = m ((c : Thread nD τ).loc main_arg1) (ix1 (rowAt (R, l))) := by
  rw [← labels_entry m c]
  unfold labels
  blk_ext [iblk, index_1]

/-- The probability the body computes, at a row of the block. -/
theorem pay11_read (x0 : Vec Ideal S19x512x128 .bf16) (x1 : Vec Ideal S512x128 .i32) (r : Fin 512) (l : Fin 128) :
    k0_pay11 (F := Ideal) x0 x1 (ix2 r l) = Ideal.div (Ideal.exp (∑ x : Fin 19, Scalar.select (IntOp.cmpi .eq (BitVec.ofNat 32 ↑x) (x1 (ix2 r l))) (x0 (ix3 x r l)) 0)) (∑ x : Fin 19, Ideal.exp (x0 (ix3 x r l))) := by
  pointwise [k0_pay11, k0_pay9, k0_pay7, k0_pay8, k0_pay6]

/-- The loss the body computes, at a row of the block. -/
theorem pay12_read (x0 : Vec Ideal S19x512x128 .bf16) (x1 : Vec Ideal S512x128 .i32) (r : Fin 512) (l : Fin 128) :
    k0_pay12 (F := Ideal) x0 x1 (ix2 r l) = Ideal.log (∑ x : Fin 19, Ideal.exp (x0 (ix3 x r l))) - (∑ x : Fin 19, Scalar.select (IntOp.cmpi .eq (BitVec.ofNat 32 ↑x) (x1 (ix2 r l))) (x0 (ix3 x r l)) 0) := by
  pointwise [k0_pay12, k0_pay10, k0_pay9, k0_pay7, k0_pay8, k0_pay6]

/-- The stored probability is the compared one. -/
theorem pay9_eq (x0 : Vec Ideal S19x512x128 .bf16) (x1 : Vec Ideal S512x128 .i32) (r : Fin 512) (l : Fin 128) :
    k0_pay9 (F := Ideal) x0 x1 (ix2 r l) = k0_pay11 (F := Ideal) x0 x1 (ix2 r l) := by
  pointwise [k0_pay11]

/-- The stored loss is the summed one. -/
theorem pay10_eq (x0 : Vec Ideal S19x512x128 .bf16) (x1 : Vec Ideal S512x128 .i32) (r : Fin 512) (l : Fin 128) :
    Ideal.log (k0_pay8 (F := Ideal) x0 (ix2 r l)) - k0_pay7 (F := Ideal) x0 x1 (ix2 r l) = k0_pay12 (F := Ideal) x0 x1 (ix2 r l) := by
  pointwise [k0_pay12, k0_pay10]

/-- The totals after a point: the number of the block's rows with a low probability is added to the first, their losses to the second. -/
theorem totals_read (a0 a1 : Ideal .f32) (x0 : Vec Ideal S19x512x128 .bf16) (x1 : Vec Ideal S512x128 .i32) (j : S2.Idx) :
    totalsNext (F := Ideal) a0 a1 x0 x1 j = if ((j 0 : Fin 2) : ℕ) = 0 then a0 + ∑ r : Fin 512, ∑ l : Fin 128, (if k0_pay11 (F := Ideal) x0 x1 (ix2 r l) ≤ Ideal.ofBits .f32 1060320051#32 then 1 else 0)
      else a1 + ∑ r : Fin 512, ∑ l : Fin 128, if k0_pay11 (F := Ideal) x0 x1 (ix2 r l) ≤ Ideal.ofBits .f32 1060320051#32 then k0_pay12 (F := Ideal) x0 x1 (ix2 r l) else 0 := by
  unfold totalsNext pair
  pointwise [k0_pay1, k0_pay2, k0_pay10, k0_pay13, k0_pay14, extractAt]
  simp only [pay9_eq, pay10_eq, sitofp_bit]

theorem pointOf_eq (t : Fin cfg0.N) (r : Fin 512) (l : Fin 128) (R : Fin 8192) (hR : R.val = t.val * 512 + r.val) : pointOf (ix2 R l) = t :=
  Fin.ext (show R.val / 512 = t.val by omega)

theorem inBlock_eq (t : Fin cfg0.N) (r : Fin 512) (l : Fin 128) (R : Fin 8192) (hR : R.val = t.val * 512 + r.val) : inBlock (ix2 R l) = ix2 r l := by
  have h : (⟨R.val % 512, Nat.mod_lt _ (by decide)⟩ : Fin 512) = r := Fin.ext (show R.val % 512 = r.val by omega)
  show ValueIdx.ix2 (⟨R.val % 512, Nat.mod_lt _ (by decide)⟩ : Fin 512) l = ix2 r l
  rw [h]
  rfl

theorem allP_at (t : Fin cfg0.N) (r : Fin 512) (l : Fin 128) (R : Fin 8192) (hR : R.val = t.val * 512 + r.val) :
    allP m c (ix2 R l) = k0_pay11 (F := Ideal) (logits m c t) (labels m c t) (ix2 r l) := by
  unfold allP
  rw [pointOf_eq t r l R hR, inBlock_eq t r l R hR]

theorem allN_at (t : Fin cfg0.N) (r : Fin 512) (l : Fin 128) (R : Fin 8192) (hR : R.val = t.val * 512 + r.val) :
    allN m c (ix2 R l) = k0_pay12 (F := Ideal) (logits m c t) (labels m c t) (ix2 r l) := by
  unfold allN
  rw [pointOf_eq t r l R hR, inBlock_eq t r l R hR]

/-- The point, and the place in its block, of a group of 128 rows. -/
theorem place (R : Fin 8192) : ∃ (t : Fin cfg0.N) (r : Fin 512), R.val = t.val * 512 + r.val := by
  refine ⟨⟨R.val / 512, ?_⟩, ⟨R.val % 512, Nat.mod_lt _ (by decide)⟩, ?_⟩
  · rw [show cfg0.N = 16 from N_0]; omega
  · show R.val = R.val / 512 * 512 + R.val % 512
    omega

/-- Every row's probability is the softmax probability of its label. -/
theorem allP_read (hT : ∀ n, (m ((c : Thread nD τ).loc main_arg1) (ix1 n)).toNat < 19) (R : Fin 8192) (l : Fin 128) :
    allP m c (ix2 R l) = prob (rowX (m ((c : Thread nD τ).loc main_arg0)) (rowAt (R, l))) (label (m ((c : Thread nD τ).loc main_arg1)) (rowAt (R, l))) := by
  obtain ⟨t, r, hR⟩ := place R
  rw [allP_at m c t r l R hR, pay11_read, labels_read m c t r l R hR]
  simp only [logits_read m c t _ r l R hR]
  rw [pick_label _ (hT _)]
  rfl

/-- Every row's loss is the cross entropy of its label. -/
theorem allN_read (hT : ∀ n, (m ((c : Thread nD τ).loc main_arg1) (ix1 n)).toNat < 19) (R : Fin 8192) (l : Fin 128) :
    allN m c (ix2 R l) = loss (rowX (m ((c : Thread nD τ).loc main_arg0)) (rowAt (R, l))) (label (m ((c : Thread nD τ).loc main_arg1)) (rowAt (R, l))) := by
  obtain ⟨t, r, hR⟩ := place R
  rw [allN_at m c t r l R hR, pay12_read, labels_read m c t r l R hR]
  simp only [logits_read m c t _ r l R hR]
  rw [pick_label _ (hT _)]
  rfl

/-- One step of the totals. -/
theorem totals_step (n : ℕ) (h : n < 16) (j : S2.Idx) :
    totals m c (n + 1) j = totalsNext (F := Ideal) (totals m c n (ValueIdx.ix1 0)) (totals m c n (ValueIdx.ix1 1)) (logits m c ⟨n, by rw [show cfg0.N = 16 from N_0]; exact h⟩) (labels m c ⟨n, by rw [show cfg0.N = 16 from N_0]; exact h⟩) j := by
  show (if h : n < cfg0.N then _ else _ : Vec Ideal S2 .f32) j = _
  rw [dif_pos (by rw [show cfg0.N = 16 from N_0]; exact h)]

theorem totals_zero (j : S2.Idx) : totals m c 0 j = 0 := by
  have h : ∀ z : Ideal .f32, pair z z j = z := fun z => by unfold pair; split <;> rfl
  show pair _ _ j = 0
  rw [h]
  exact Ideal.ofBits_zero_f32

/-- The first total after a point. -/
theorem count_step (a0 a1 : Ideal .f32) (x0 : Vec Ideal S19x512x128 .bf16) (x1 : Vec Ideal S512x128 .i32) :
    totalsNext (F := Ideal) a0 a1 x0 x1 (ValueIdx.ix1 0) = a0 + ∑ r : Fin 512, ∑ l : Fin 128, (if k0_pay11 (F := Ideal) x0 x1 (ix2 r l) ≤ Ideal.ofBits .f32 1060320051#32 then 1 else 0) :=
  (totals_read a0 a1 x0 x1 _).trans (if_pos rfl)

/-- The second total after a point. -/
theorem loss_step (a0 a1 : Ideal .f32) (x0 : Vec Ideal S19x512x128 .bf16) (x1 : Vec Ideal S512x128 .i32) :
    totalsNext (F := Ideal) a0 a1 x0 x1 (ValueIdx.ix1 1) = a1 + ∑ r : Fin 512, ∑ l : Fin 128, if k0_pay11 (F := Ideal) x0 x1 (ix2 r l) ≤ Ideal.ofBits .f32 1060320051#32 then k0_pay12 (F := Ideal) x0 x1 (ix2 r l) else 0 :=
  (totals_read a0 a1 x0 x1 _).trans (if_neg (fun h : (1 : ℕ) = 0 => Nat.one_ne_zero h))

/-- How many of 128 rows have a low probability. -/
def lowCount (R : Fin 8192) : EReal := ∑ l : Fin 128, if allP m c (ix2 R l) ≤ Ideal.ofBits .f32 1060320051#32 then (1 : EReal) else 0

/-- The losses of those rows. -/
def lowLoss (R : Fin 8192) : EReal := ∑ l : Fin 128, if allP m c (ix2 R l) ≤ Ideal.ofBits .f32 1060320051#32 then allN m c (ix2 R l) else 0

/-- The first total counts the rows of low probability. -/
theorem total_count : totals m c 16 (ValueIdx.ix1 0) = ∑ R : Fin 8192, lowCount m c R := by
  refine sum_blocks (lowCount m c) (fun n => totals m c n (ValueIdx.ix1 0)) (totals_zero m c _) fun n h => ?_
  rw [totals_step m c n h, count_step]
  refine congrArg (_ + ·) (Finset.sum_congr rfl fun r _ => ?_)
  unfold lowCount
  refine Finset.sum_congr rfl fun l _ => ?_
  rw [allP_at m c ⟨n, by rw [show cfg0.N = 16 from N_0]; exact h⟩ r l _ rfl]

/-- The second total sums their losses. -/
theorem total_loss : totals m c 16 (ValueIdx.ix1 1) = ∑ R : Fin 8192, lowLoss m c R := by
  refine sum_blocks (lowLoss m c) (fun n => totals m c n (ValueIdx.ix1 1)) (totals_zero m c _) fun n h => ?_
  rw [totals_step m c n h, loss_step]
  refine congrArg (_ + ·) (Finset.sum_congr rfl fun r _ => ?_)
  unfold lowLoss
  refine Finset.sum_congr rfl fun l _ => ?_
  rw [allP_at m c ⟨n, by rw [show cfg0.N = 16 from N_0]; exact h⟩ r l _ rfl, allN_at m c ⟨n, by rw [show cfg0.N = 16 from N_0]; exact h⟩ r l _ rfl]

end Cert.KernelIdeal.Hand

end
-- ==== Proof.Mean.lean ====
module

public import proofs.«01_k».proof.Proof.Blocks

/-!
# What the kernel computes, in terms of its arguments

The mean of the losses of the rows whose probability is at most the threshold: the larger of the cut 0.7 and the
100000-th smallest probability.
-/

@[expose] public section

set_option maxRecDepth 16384

noncomputable section

namespace Cert.Hand

open Idealize.ShloMosaic
open scoped BigOperators

/-- The cut 0.7, as the program has it. -/
def cut : EReal := Ideal.ofBits .f32 0x3F333333#32

/-- The threshold for the 100000-th smallest probability `q`. -/
def limit (q : EReal) : EReal := if cut < q then q else cut

/-- The mean of the losses `L` of the rows whose probability `p` is at most `x`, where the count is taken to be at least one. -/
def meanUpTo {ι : Type} [Fintype ι] (p L : ι → EReal) (x : EReal) : EReal :=
  Ideal.div (∑ i, if p i ≤ x then L i else 0) (max (∑ i, if p i ≤ x then (1 : EReal) else 0) 1)

/-- The number the kernel compares its count with. -/
theorem many_eq : Ideal.ofBits .f32 0x47C35000#32 = ((100000 : ℕ) : EReal) := by
  rw [show ((100000 : ℕ) : EReal) = ((100000 : ℝ) : EReal) by norm_cast]
  simp [Ideal.ofBits, Ideal.ieee, -EReal.coe_mul]; norm_num

/-- A sum over the kernel's arrays is a sum over the rows. -/
theorem sum_rowAt (f : Fin 1048576 → EReal) : (∑ R : Fin 8192, ∑ l : Fin 128, f (rowAt (R, l))) = ∑ n, f n := by
  rw [← Fintype.sum_prod_type' (fun R l => f (rowAt (R, l)))]
  exact Equiv.sum_comp rowAt f

variable {ι : Type} [Fintype ι] (p L : ι → EReal) (q : EReal)

/-- When many probabilities are up to the cut, the sum over the count is the mean at the threshold. -/
theorem many_mean (hq : IsKth 100000 p q) (h : ¬ (∑ i, if p i ≤ cut then (1 : EReal) else 0) < Ideal.ofBits .f32 0x47C35000#32) :
    Ideal.div (∑ i, if p i ≤ cut then L i else 0) (∑ i, if p i ≤ cut then (1 : EReal) else 0) = meanUpTo p L (limit q) := by
  rw [upTo_sum, many_eq, not_lt, Nat.cast_le] at h
  have hl : limit q = cut := if_neg (not_lt.mpr ((hq cut).mpr h))
  unfold meanUpTo
  rw [hl, upTo_sum, max_eq_left]
  exact_mod_cast (show 1 ≤ upTo p cut by omega)

/-- When few are, the mean up to the float of the least word with enough probabilities is the mean at the threshold. -/
theorem few_mean (hq : IsKth 100000 p q) (h : (∑ i, if p i ≤ cut then (1 : EReal) else 0) < Ideal.ofBits .f32 0x47C35000#32)
    (hsep : q ≤ cut ∨ ∀ i, p i ≤ q ∨ q + gap ≤ p i) (b : ℕ) (hb : b ≤ oneWord) (hin : 100000 ≤ upTo p (floatOf b))
    (hout : b = 0 ∨ ¬ 100000 ≤ upTo p (floatOf (b - 1))) : meanUpTo p L (floatOf b) = meanUpTo p L (limit q) := by
  rw [upTo_sum, many_eq, Nat.cast_lt] at h
  have hc : cut < q := lt_of_not_ge fun hle => absurd ((hq cut).mp hle) (by omega)
  have hs := hsep.resolve_left (not_le.mpr hc)
  have hl : limit q = q := if_pos hc
  unfold meanUpTo
  simp only [hl, keeps_same p q hq hc hs b hb hin hout]

end Cert.Hand

namespace Cert.KernelIdeal.Hand

open Cert.KernelIdeal.Gen Cert.Hand
open Idealize.ShloMosaic Idealize.ShloMosaic.TcCoe
open scoped BigOperators

variable (m : (ℓ : Loc nD τ sig) → Buf (Elt Ideal) ℓ) (c : Dev nD)

/-- Every row's probability, from the arguments. -/
def rowP (A : FVec Ideal S1048576x19 .f32) (T : IVec S1048576 32) (n : Fin 1048576) : EReal := prob (rowX A n) (label T n)
/-- Every row's loss, from the arguments. -/
def rowL (A : FVec Ideal S1048576x19 .f32) (T : IVec S1048576 32) (n : Fin 1048576) : EReal := loss (rowX A n) (label T n)

/-- The kernel's number is the mean at the threshold. -/
theorem result_mean (A : FVec Ideal S1048576x19 .f32) (T : IVec S1048576 32) (hA : m ((c : Thread nD τ).loc main_arg0) = A)
    (hB : m ((c : Thread nD τ).loc main_arg1) = T) (hT : ∀ n, (T (ix1 n)).toNat < 19) (hR : ∀ n, RowOk (rowX A n)) (q : EReal)
    (hq : IsKth 100000 (rowP A T) q) (hsep : q ≤ cut ∨ ∀ n, rowP A T n ≤ q ∨ q + gap ≤ rowP A T n) (j : S1x1.Idx) :
    result m c j = meanUpTo (rowP A T) (rowL A T) (limit q) := by
  subst hA hB
  generalize hA : m ((c : Thread nD τ).loc main_arg0) = A at *
  generalize hB : m ((c : Thread nD τ).loc main_arg1) = T at *
  have hP : ∀ R l, allP m c (ix2 R l) = rowP A T (rowAt (R, l)) := fun R l => by
    rw [allP_read m c (by rw [hB]; exact hT), hA, hB]; rfl
  have hN : ∀ R l, allN m c (ix2 R l) = rowL A T (rowAt (R, l)) := fun R l => by
    rw [allN_read m c (by rw [hB]; exact hT), hA, hB]; rfl
  have hcount : totals m c 16 (ValueIdx.ix1 0) = ∑ n, if rowP A T n ≤ cut then (1 : EReal) else 0 := by
    rw [total_count, ← sum_rowAt]
    refine Finset.sum_congr rfl fun R _ => ?_
    unfold lowCount cut
    simp only [hP]
  have hloss : totals m c 16 (ValueIdx.ix1 1) = ∑ n, if rowP A T n ≤ cut then rowL A T n else 0 := by
    rw [total_loss, ← sum_rowAt]
    refine Finset.sum_congr rfl fun R _ => ?_
    unfold lowLoss cut
    simp only [hP, hN]
  unfold result
  by_cases h : isFew (F := Ideal) (totals m c 16 (ValueIdx.ix1 0))
  · rw [if_pos h, pay5_read]
    rw [isFew_iff, hcount] at h
    have hup : ∀ x, upTo (flat (allP m c)) x = upTo (rowP A T) x := fun x => by
      rw [← upTo_equiv rowAt (rowP A T) x]
      exact congrArg (fun f => upTo f x) (funext fun y => hP y.1 y.2)
    have hle : ∀ y, allP m c y ≤ 1 := fun y => by
      have e : y = ix2 (y 0 : Fin 8192) (y 1 : Fin 128) := eq_ix2 y
      exact (le_of_eq ((congrArg (allP m c) e).trans (hP (y 0) (y 1)))).trans (prob_le_one _ (hR _) _)
    obtain ⟨b, hb, hone, hin, hout⟩ := search_least (allP m c) hle
    rw [hup] at hin
    rw [hup] at hout
    rw [hb, ← few_mean (rowP A T) (rowL A T) q hq h hsep b hone hin hout]
    unfold meanUpTo
    rw [← sum_rowAt, ← sum_rowAt]
    simp only [hP, hN]
    unfold floatOf
    rfl
  · rw [if_neg h, pay3_read]
    rw [isFew_iff, hcount] at h
    rw [hcount, hloss]
    exact many_mean (rowP A T) (rowL A T) q hq h

end Cert.KernelIdeal.Hand

end
-- ==== Proof.Gather.lean ====
module

public import Idealize.ShloMosaic.PureOps
public import Idealize.ShloMosaic.Lib.Pointwise

/-!
# Two takes from a table

A take of one entry per row by a pair of positions, and a take of one entry out of each row by a column number. A
position inside the table is read as it stands.
-/

@[expose] public section

namespace Cert.Hand

open Idealize.ShloMosaic

variable {α : Type} {C N : ℕ}

/-- A rank-1 index has one coordinate, whatever its axis is called. -/
theorem ix1_val (n : Fin N) (X : Fin 1) : ((ix1 n : (⟨1, ![N]⟩ : Shape).Idx) X).val = n.val := by
  obtain rfl : X = 0 := Subsingleton.elim _ _
  rfl

/-- The take by a pair of positions: entry `n` of the result is the table's entry at the `n`-th pair. -/
theorem take_pair (d : GatherDims ⟨2, ![C, N]⟩ ⟨2, ![N, 2]⟩ ⟨1, ![N]⟩) (hc : d.collapsedSliceDims = [0, 1])
    (hb : d.operandBatchingDims = []) (hm : d.startIndexMap = [0, 1]) (hv : d.indexVectorDim = 1)
    (x : (⟨2, ![C, N]⟩ : Shape).Idx → α) (w : IVec ⟨2, ![N, 2]⟩ 32) (n k : Fin N) (r : Fin C)
    (h0 : (w (ix2 n 0)).toInt = r.val) (h1 : (w (ix2 n 1)).toInt = k.val) :
    Host.gather d x w (ix1 n) = x (ix2 r k) := by
  obtain ⟨od, cd, ob, sb, sm, iv, sz, wf⟩ := d
  simp only at hc hb hm hv
  subst hc hb hm hv
  generalize hd : (⟨od, [0, 1], [], sb, [0, 1], 1, sz, wf⟩ : GatherDims ⟨2, ![C, N]⟩ ⟨2, ![N, 2]⟩ ⟨1, ![N]⟩) = d
  have hsi : ∀ c : Fin d.startIndexMap.length, ∀ c' : Fin 2, c.val = c'.val → d.siIdx (ix1 n) c = ix2 n c' := fun c c' hcc => by
    subst hd
    funext b
    match b with
    | ⟨0, _⟩ => exact Fin.ext (ix1_val n _)
    | ⟨1, _⟩ => exact Fin.ext hcc
  refine congrArg x (funext fun a => Fin.ext ?_)
  have hs : d.sliceSizes a = 1 := d.slice_collapsed a (by subst hd; fin_cases a <;> simp)
  have hk : a ∉ d.sKept := by rw [GatherDims.mem_sKept]; subst hd; fin_cases a <;> simp
  have hb : a ∉ d.operandBatchingDims := by subst hd; exact List.not_mem_nil
  have hm : a ∈ d.startIndexMap := by subst hd; fin_cases a <;> simp
  show d.start (ix1 n) w a + d.batchCoord (ix1 n) a + d.offCoord (ix1 n) a = _
  rw [d.batchCoord_eq_zero _ a hb, d.offCoord_eq_zero _ a hk, GatherDims.start, dif_pos hm, hs]
  match a with
  | ⟨0, _⟩ =>
    rw [hsi _ 0 (by subst hd; rfl), h0]
    have := r.isLt
    show min (r.val : ℤ).toNat (C - 1) + 0 + 0 = r.val
    omega
  | ⟨1, _⟩ =>
    rw [hsi _ 1 (by subst hd; rfl), h1]
    have := k.isLt
    show min (k.val : ℤ).toNat (N - 1) + 0 + 0 = k.val
    omega

/-- The take of one entry out of each row: row `n` of the result is row `n` of the table at the column number given for it. -/
theorem take_along (d : GatherDims ⟨2, ![N, C]⟩ ⟨3, ![N, 1, 1]⟩ ⟨2, ![N, 1]⟩) (ho : d.offsetDims = []) (hc : d.collapsedSliceDims = [1])
    (hb : d.operandBatchingDims = [0]) (hsb : d.startIndicesBatchingDims = [0]) (hm : d.startIndexMap = [1]) (hv : d.indexVectorDim = 2)
    (x : (⟨2, ![N, C]⟩ : Shape).Idx → α) (w : IVec ⟨3, ![N, 1, 1]⟩ 32) (n : Fin N) (r : Fin C)
    (h0 : (w (ix3 n 0 0)).toInt = r.val) : Host.gather d x w (ix2 n 0) = x (ix2 n r) := by
  obtain ⟨od, cd, ob, sb, sm, iv, sz, wf⟩ := d
  simp only at ho hc hb hsb hm hv
  subst ho hc hb hsb hm hv
  generalize hd : (⟨[], [1], [0], [0], [1], 2, sz, wf⟩ : GatherDims ⟨2, ![N, C]⟩ ⟨3, ![N, 1, 1]⟩ ⟨2, ![N, 1]⟩) = d
  have hsi : ∀ c, d.siIdx (ix2 n 0) c = ix3 n 0 0 := fun c => by
    subst hd
    funext b
    match b with
    | ⟨0, _⟩ => rfl
    | ⟨1, _⟩ => exact Subsingleton.elim (α := Fin 1) _ _
    | ⟨2, _⟩ => exact Subsingleton.elim (α := Fin 1) _ _
  refine congrArg x (funext fun a => Fin.ext ?_)
  have hk : a ∉ d.sKept := by rw [GatherDims.mem_sKept]; subst hd; fin_cases a <;> simp
  show d.start (ix2 n 0) w a + d.batchCoord (ix2 n 0) a + d.offCoord (ix2 n 0) a = _
  rw [d.offCoord_eq_zero _ a hk]
  match a with
  | ⟨0, _⟩ =>
    have hb : (0 : Fin 2) ∈ d.operandBatchingDims := by subst hd; simp
    rw [show d.start (ix2 n 0) w ⟨0, _⟩ = 0 from d.start_batching _ _ _ hb]
    subst hd
    show 0 + n.val + 0 = n.val
    omega
  | ⟨1, _⟩ =>
    have hm : (1 : Fin 2) ∈ d.startIndexMap := by subst hd; simp
    have hb : (1 : Fin 2) ∉ d.operandBatchingDims := by subst hd; simp
    have hs : d.sliceSizes 1 = 1 := d.slice_collapsed 1 (by subst hd; simp)
    refine (congrArg (· + 0) (congrArg₂ (· + ·) ((dif_pos hm).trans ?_) (d.batchCoord_eq_zero _ _ hb))).trans (b := r.val + 0 + 0) rfl
    rw [hsi, h0, show d.sliceSizes ⟨1, _⟩ = 1 from hs]
    have := r.isLt
    show min (r.val : ℤ).toNat (C - 1) = r.val
    omega

end Cert.Hand

end
-- ==== Proof.Order.lean ====
module

public import proofs.«01_k».proof.Proof.Mean
public import proofs.«01_k».proof.Proof.Gather
public import Idealize.ShloMosaic.Lib.SortFacts
public import proofs.«01_k».proof.Proof.Gen.ReferenceIdeal.Run

/-!
# The reference's sort

The reference sorts the row numbers by probability; the number in place 99999 is that of a row whose probability is the
100000-th smallest.
-/

@[expose] public section

set_option maxRecDepth 16384

noncomputable section

namespace Cert.Hand

open Idealize.ShloMosaic

variable {N : ℕ}

/-- A sort of the row numbers by an order of the values beside them puts the values in order. -/
theorem argsort_orders (cmp : EReal × BitVec 32 → EReal × BitVec 32 → BitVec 1) (hcmp : ∀ l r, cmp l r = 1#1 ↔ l.1 < r.1)
    (p : (⟨1, ![N]⟩ : Shape).Idx → EReal) :
    ∃ σ : Fin N → Fin N, Function.Bijective σ ∧ (∀ a b, a < b → p (ix1 (σ a)) ≤ p (ix1 (σ b))) ∧
      ∀ j, (Host.sort2 ⟨1, ![N]⟩ 0 cmp p (iotaInDim ⟨1, ![N]⟩ 32 0)).2 (ix1 j) = BitVec.ofNat 32 (σ j).val := by
  let B : Fin N → Fin N → Bool := fun k k' => cmp (p (ix1 k), BitVec.ofNat 32 k.val) (p (ix1 k'), BitVec.ofNat 32 k'.val) == 1#1
  have hB : ∀ k k', B k k' = true ↔ p (ix1 k) < p (ix1 k') := fun k k' => by simp [B, hcmp]
  have hB' : ∀ k k', B k k' = false ↔ p (ix1 k') ≤ p (ix1 k) := fun k k' => by
    rw [← Bool.not_eq_true, hB, not_lt]
  refine ⟨sortedFrom B, ⟨sortedFrom_injective B, sortedFrom_surjective B⟩, fun a b hab => ?_, fun j => ?_⟩
  · refine (hB' _ _).mp (sortedFrom_noInversion B B (fun a b h => ?_) (fun _ _ h => h) (fun a b c h h' => ?_) a b hab)
    · exact (hB' _ _).mpr ((hB _ _).mp h).le
    · exact (hB' _ _).mpr (le_trans ((hB' _ _).mp h') ((hB' _ _).mp h))
  · rw [Host.sort2_eq_sortBy]
    unfold Host.sortBy
    have hal : ∀ k : Fin N, (ix1 j : (⟨1, ![N]⟩ : Shape).Idx).along (0 : Fin 1) k = ix1 k := fun k =>
      (Shape.Idx.along_rank1 _ k).trans (funext fun a => by obtain rfl : a = 0 := Subsingleton.elim _ _; rfl)
    have hf : (fun k k' : Fin N => cmp (p ((ix1 j : (⟨1, ![N]⟩ : Shape).Idx).along (0 : Fin 1) k), BitVec.ofNat 32 ((ix1 j : (⟨1, ![N]⟩ : Shape).Idx).along (0 : Fin 1) k 0).val)
        (p ((ix1 j : (⟨1, ![N]⟩ : Shape).Idx).along (0 : Fin 1) k'), BitVec.ofNat 32 ((ix1 j : (⟨1, ![N]⟩ : Shape).Idx).along (0 : Fin 1) k' 0).val) == 1#1) = B := by
      funext k k'
      rw [hal, hal]
      rfl
    exact (congrArg (fun f => BitVec.ofNat 32 ((ix1 j : (⟨1, ![N]⟩ : Shape).Idx).along (0 : Fin 1) (sortedFrom f j) 0).val) hf).trans
      (congrArg (fun i : (⟨1, ![N]⟩ : Shape).Idx => BitVec.ofNat 32 (i 0).val) (hal _))

end Cert.Hand

namespace Cert.ReferenceIdeal.Hand

open Cert.ReferenceIdeal.Gen Cert.Hand
open Idealize.ShloMosaic

/-- The sort's comparison compares the values. -/
theorem comparator_iff (l r : EReal × BitVec 32) : comparator_f32_i32_d0 (F := Ideal) l r = 1#1 ↔ l.1 < r.1 := by
  have hz : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := fun x => by
    have h1 : Ideal.cmp .une x x = 0#1 := by simp [Ideal.cmp]
    rw [h1]
    refine (if_neg (by decide)).trans ?_
    by_cases h : x = Ideal.ofBits .f32 0x00000000#32
    · refine (if_pos ?_).trans h.symm
      exact (ofBool_one _).mpr h
    · exact if_neg fun h' => h ((ofBool_one _).mp h')
  show Ideal.cmp .olt (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = 1#1 ↔ _
  rw [hz, hz]
  exact ofBool_one _

end Cert.ReferenceIdeal.Hand

end
-- ==== Proof.Rows.lean ====
module

public import proofs.«01_k».proof.Proof.Order

/-!
# The reference's rows

The reference shifts every row by its largest entry; the shifted row's softmax and log-softmax at the label are the row's
probability and the negative of its loss.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

theorem reduces_rows : S1048576x19.Reduces [1] S1048576 := by decide

/-- A row's index with the column put back. -/
theorem lift_row (n : Fin 1048576) (k : Fin 19) : reduces_rows.lift (ix1 n) k = ix2 n k := by
  funext b
  match b with
  | ⟨0, _⟩ => rfl
  | ⟨1, _⟩ => rfl

/-- A number per row, spread along the row. -/
theorem spread_row {α : Type} (v : S1048576.Idx → α) (n : Fin 1048576) (k : Fin 19) :
    broadcastInDim S1048576x19 ![0, 1] bcast_S1048576x1_S1048576x19_0_1 (broadcastInDim S1048576x1 ![0] bcast_S1048576_S1048576x1_0 v) (ix2 n k)
      = v (ix1 n) := by
  pointwise

/-- A number per row, as a column. -/
theorem column {α : Type} (v : S1048576.Idx → α) (n : Fin 1048576) (k : Fin 1) :
    broadcastInDim S1048576x1 ![0] bcast_S1048576_S1048576x1_0 v (ix2 n k) = v (ix1 n) := by
  pointwise

theorem bits_low : Ideal.ofBits .f32 0xFF800000#32 = ⊥ := by simp [Ideal.ofBits, Ideal.ieee]

/-- A constant read anywhere. -/
theorem constant_read {s : Shape} (w : BitVec 32) (i : s.Idx) : constant (F := Ideal) s .f32 w i = Ideal.ofBits .f32 w := rfl

/-- A row's largest entry, from the least number. -/
theorem row_top (A : FVec Ideal S1048576x19 .f32) (z : FVec Ideal S_ .f32) (hz : ∀ i, z i = (⊥ : EReal)) (n : Fin 1048576) :
    Host.reduce (FloatOps.maximumf (F := Ideal) (φ := .f32)) A z reducesTo_S1048576x19_S1048576_d1 h_S_ (ix1 n) = top (rowX A n) := by
  rw [Host.reduce_eq_fold_single _ _ _ _ reduces_rows, hz]
  have e : A ∘ reduces_rows.lift (ix1 n) = rowX A n := funext fun k => congrArg A (lift_row n k)
  rw [e]
  rfl

/-- A row's sum, from zero. -/
theorem row_sum (A : FVec Ideal S1048576x19 .f32) (z : FVec Ideal S_ .f32) (hz : ∀ i, z i = (0 : EReal)) (n : Fin 1048576) :
    Host.reduceAdd A z reducesTo_S1048576x19_S1048576_d1 h_S_ (ix1 n) = ∑ k, A (ix2 n k) := by
  refine (Ideal.hostReduceAdd_single reducesTo_S1048576x19_S1048576_d1 reduces_rows A _ (ix1 n)).trans ?_
  rw [hz, zero_add]
  exact Finset.sum_congr rfl fun k _ => congrArg A (lift_row n k)

/-- The larger of a number and a vector. -/
theorem max_read (z : FVec Ideal S_ .f32) (hz : ∀ i, z i = (⊥ : EReal)) (v : FVec Ideal S1048576 .f32) (n : Fin 1048576) :
    maximumf (broadcastInDim S1048576 ![] bcast_S_S1048576 z) v (ix1 n) = v (ix1 n) := by
  pointwise
  rw [hz]
  exact max_eq_right bot_le

/-- The shifted rows. -/
def shifted (z : FVec Ideal S_ .f32) (A : FVec Ideal S1048576x19 .f32) : FVec Ideal S1048576x19 .f32 :=
  subf A (broadcastInDim S1048576x19 ![0, 1] bcast_S1048576x1_S1048576x19_0_1 (broadcastInDim S1048576x1 ![0] bcast_S1048576_S1048576x1_0
    (maximumf (broadcastInDim S1048576 ![] bcast_S_S1048576 z)
      (Host.reduce FloatOps.maximumf A z reducesTo_S1048576x19_S1048576_d1 h_S_))))

/-- The sums of the shifted rows' exponentials. -/
def shiftedSum (z o : FVec Ideal S_ .f32) (A : FVec Ideal S1048576x19 .f32) : FVec Ideal S1048576 .f32 :=
  Host.reduceAdd (Host.exp (shifted z A)) o reducesTo_S1048576x19_S1048576_d1 h_S_

/-- The shifted rows' softmax. -/
def softmax (z o : FVec Ideal S_ .f32) (A : FVec Ideal S1048576x19 .f32) : FVec Ideal S1048576x19 .f32 :=
  Host.divf (Host.exp (shifted z A)) (broadcastInDim S1048576x19 ![0, 1] bcast_S1048576x1_S1048576x19_0_1
    (broadcastInDim S1048576x1 ![0] bcast_S1048576_S1048576x1_0 (shiftedSum z o A)))

/-- The shifted rows' log-softmax. -/
def logSoftmax (z o : FVec Ideal S_ .f32) (A : FVec Ideal S1048576x19 .f32) : FVec Ideal S1048576x19 .f32 :=
  subf (shifted z A) (broadcastInDim S1048576x19 ![0, 1] bcast_S1048576x1_S1048576x19_0_1
    (Host.log (broadcastInDim S1048576x1 ![0] bcast_S1048576_S1048576x1_0 (shiftedSum z o A))))

variable (z o : FVec Ideal S_ .f32) (hz : ∀ i, z i = (⊥ : EReal)) (ho : ∀ i, o i = (0 : EReal)) (A : FVec Ideal S1048576x19 .f32)

include hz in
theorem shifted_read (n : Fin 1048576) (k : Fin 19) : shifted z A (ix2 n k) = rowX A n k - top (rowX A n) := by
  have e := (max_read z hz (Host.reduce FloatOps.maximumf A z reducesTo_S1048576x19_S1048576_d1 h_S_) n).trans (row_top A z hz n)
  exact congrArg (rowX A n k - ·) ((spread_row _ n k).trans e)

include hz ho in
theorem shiftedSum_read (n : Fin 1048576) : shiftedSum z o A (ix1 n) = ∑ k, Ideal.exp (rowX A n k - top (rowX A n)) :=
  (row_sum _ o ho n).trans (Finset.sum_congr rfl fun k _ => congrArg Ideal.exp (shifted_read z hz A n k))

include hz ho in
/-- The shifted row's softmax is the row's probability. -/
theorem softmax_read (n : Fin 1048576) (k : Fin 19) (hR : RowOk (rowX A n)) : softmax z o A (ix2 n k) = prob (rowX A n) k :=
  (congrArg₂ Ideal.div (congrArg Ideal.exp (shifted_read z hz A n k)) ((spread_row _ n k).trans (shiftedSum_read z o hz ho A n))).trans
    (prob_shift _ hR k)

include hz ho in
/-- The negative of the shifted row's log-softmax is the row's loss. -/
theorem logSoftmax_read (n : Fin 1048576) (k : Fin 19) (hR : RowOk (rowX A n)) : -(logSoftmax z o A (ix2 n k) : EReal) = loss (rowX A n) k := by
  have e : Host.log (F := Ideal) (φ := .f32) (broadcastInDim S1048576x1 ![0] bcast_S1048576_S1048576x1_0 (shiftedSum z o A))
      = broadcastInDim S1048576x1 ![0] bcast_S1048576_S1048576x1_0 (Host.log (F := Ideal) (φ := .f32) (shiftedSum z o A)) := rfl
  refine (congrArg (fun w : EReal => -w) ?_).trans (loss_shift _ hR k)
  unfold logSoftmax
  rw [e]
  exact congrArg₂ (fun a b : EReal => a - b) (shifted_read z hz A n k)
    ((spread_row _ n k).trans (congrArg Ideal.log (shiftedSum_read z o hz ho A n)))

end Cert.ReferenceIdeal.Hand

end
-- ==== Proof.Pick.lean ====
module

public import proofs.«01_k».proof.Proof.Rows

/-!
# The probability of a row's own label

The reference takes, for every row, the softmax at the row's label.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

/-- An index counted from the end where it is negative. -/
def wrapped (e : BitVec 32) (w : IVec S1048576 32) : IVec S1048576 32 :=
  select (cmpi .slt w (broadcastInDim S1048576 ![] bcast_S_S1048576 (constantI S_ 32 0#32)))
    (addi w (broadcastInDim S1048576 ![] bcast_S_S1048576 (constantI S_ 32 e))) w

/-- A selection between a wrapped word and the word takes the word if it is not negative. -/
theorem select_nonneg (w a : BitVec 32) (h : 0 ≤ w.toInt) : Scalar.select (IntOp.cmpi .slt w 0#32) a w = w := by
  refine if_neg fun h' => ?_
  have : w.slt 0#32 = false := by simp only [BitVec.slt, BitVec.toInt_zero, decide_eq_false_iff_not, not_lt]; exact h
  have h2 : IntOp.cmpi .slt w 0#32 = 0#1 := by simp [IntOp.cmpi, this]
  rw [h2] at h'
  exact absurd h' (by decide)

theorem wrapped_read (e : BitVec 32) (w : IVec S1048576 32) (n : Fin 1048576) (h : 0 ≤ (w (ix1 n)).toInt) : wrapped e w (ix1 n) = w (ix1 n) := by
  unfold wrapped
  pointwise
  exact select_nonneg _ _ h

/-- Two columns side by side. -/
theorem beside (a b : IVec S1048576x1 32) (n : Fin 1048576) :
    concatenate S1048576x2 1 [⟨S1048576x1, a⟩, ⟨S1048576x1, b⟩] concatenates_S1048576x1_S1048576x1_S1048576x2_d1 (ix2 n 0) = a (ix2 n 0) ∧
    concatenate S1048576x2 1 [⟨S1048576x1, a⟩, ⟨S1048576x1, b⟩] concatenates_S1048576x1_S1048576x1_S1048576x2_d1 (ix2 n 1) = b (ix2 n 0) := by
  constructor
  · pointwise
  · pointwise

/-- The entry of each row at its label, where the row is not to be left out. -/
def picked (S : FVec Ideal S1048576x19 .f32) (one : FVec Ideal S_ .f32) (v : IVec S1048576 1) (w : IVec S1048576 32) : FVec Ideal S1048576 .f32 :=
  Host.gather gather_S19x1048576_S1048576x2_S1048576_n_01_n_n_01_1_11
    (select (broadcastInDim S19x1048576 ![0, 1] bcast_S1x1048576_S19x1048576_0_1 (broadcastInDim S1x1048576 ![1] bcast_S1048576_S1x1048576_1 v))
      (transpose S19x1048576 [1, 0] S transposes_S1048576x19_S19x1048576_1_0) (broadcastInDim S19x1048576 ![] bcast_S_S19x1048576 one))
    (concatenate S1048576x2 1 [⟨S1048576x1, broadcastInDim S1048576x1 ![0] bcast_S1048576_S1048576x1_0 (wrapped 19#32 w)⟩,
      ⟨S1048576x1, broadcastInDim S1048576x1 ![0] bcast_S1048576_S1048576x1_0 (wrapped 1048576#32 (iotaInDim S1048576 32 0))⟩]
      concatenates_S1048576x1_S1048576x1_S1048576x2_d1)

theorem picked_read (S : FVec Ideal S1048576x19 .f32) (one : FVec Ideal S_ .f32) (v : IVec S1048576 1) (w : IVec S1048576 32)
    (n : Fin 1048576) (r : Fin 19) (hv : v (ix1 n) = 1#1) (hw : (w (ix1 n)).toInt = r.val) : picked S one v w (ix1 n) = S (ix2 n r) := by
  have hi : ((iotaInDim S1048576 32 0 : IVec S1048576 32) (ix1 n)).toInt = n.val := Cert.KernelIdeal.Hand.toInt_word n.val (by have := n.isLt; omega)
  refine (take_pair _ rfl rfl rfl rfl _ _ n n r ?_ ?_).trans ?_
  · rw [(beside _ _ n).1, column, wrapped_read _ _ _ (by rw [hw]; exact Int.natCast_nonneg _), hw]
  · rw [(beside _ _ n).2, column, wrapped_read _ _ _ (by rw [hi]; exact Int.natCast_nonneg _), hi]
  · pointwise
    rw [hv]
    exact if_pos rfl

end Cert.ReferenceIdeal.Hand

end
-- ==== Proof.Least.lean ====
module

public import proofs.«01_k».proof.Proof.Pick
public import Idealize.ShloMosaic.Lib.DynamicIndex

/-!
# The 100000-th smallest probability, as the reference finds it

The reference reads the row number in place 99999 of its sort, then the probability of that row.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

/-- One entry cut out of a vector. -/
theorem cut_read {α : Type} (x : S1048576.Idx → α) (k : Fin 1048576) (h : S1048576.Slices ![k.val] S1) (j : S1.Idx) :
    extractStridedSlice S1 ![k.val] x h j = x (ix1 k) := by
  have hj : j = ix1 0 := funext fun a => by
    obtain rfl : a = 0 := Subsingleton.elim _ _
    exact Subsingleton.elim (α := Fin 1) _ _
  subst hj
  refine congrArg x (funext fun a => ?_)
  obtain rfl : a = 0 := Subsingleton.elim _ _
  exact Fin.ext (Nat.add_zero k.val)

/-- A row number counted from the end where it is negative, for one that is not. -/
theorem start_read (v w : IVec S_ 32) (i : S_.Idx) (h : 0 ≤ (v i).toInt) : select (cmpi .slt v (constantI S_ 32 0#32)) w v i = v i :=
  select_nonneg (v i) (w i) h

/-- One entry read at a row number that is computed. -/
theorem at_read {α : Type} (x : S1048576.Idx → α) (w : IVec S_ 32) (k : Fin 1048576) (h : (w (Shape.Idx.first h_S_)).toInt = k.val) (j : S1.Idx) :
    Host.dynamicSlice S1 x (fun a => ((![w] : Fin 1 → IVec S_ 32) a (Shape.Idx.first h_S_)).toInt) sliceFits_S1048576_S1 j = x (ix1 k) := by
  have hf : S1048576.Slices ![k.val] S1 := ⟨rfl, fun a => by
    obtain rfl : a = 0 := Subsingleton.elim _ _
    exact k.isLt⟩
  rw [Host.dynamicSlice_eq_extractStridedSlice S1 x _ ![k.val] _ hf fun a => by
    obtain rfl : a = 0 := Subsingleton.elim _ _
    exact h]
  exact cut_read x k hf j

/-- The row number in place 99999 of the sort. -/
def placed (p : FVec Ideal S1048576 .f32) : IVec S_ 32 :=
  shapeCast _ (extractStridedSlice S1 ![99999] ((Host.sort2 S1048576 0 comparator_f32_i32_d0 p (iotaInDim S1048576 32 0)).2) slices_S1048576_S1_99999) shapeCasts_S1_S_

/-- The probability of that row. -/
def least (p : FVec Ideal S1048576 .f32) : FVec Ideal S_ .f32 :=
  shapeCast _ (Host.dynamicSlice S1 p (fun k => (((![select (cmpi .slt (placed p) (constantI S_ 32 0#32)) (addi (placed p) (constantI S_ 32 1048576#32))
    (placed p)] : Fin 1 → IVec S_ 32)) k (Shape.Idx.first h_S_)).toInt) sliceFits_S1048576_S1) shapeCasts_S1_S_

theorem least_read (p : FVec Ideal S1048576 .f32) :
    ∃ q : EReal, (∀ i, least p i = q) ∧ IsKth 100000 (fun n => p (ix1 n)) q := by
  obtain ⟨σ, hσ, hord, hs⟩ := argsort_orders (comparator_f32_i32_d0 (F := Ideal)) comparator_iff p
  have hp : ∀ i, placed p i = BitVec.ofNat 32 (σ ⟨99999, by omega⟩).val := fun i =>
    (cut_read _ ⟨99999, by omega⟩ slices_S1048576_S1_99999 _).trans (hs _)
  have hi : (BitVec.ofNat 32 (σ ⟨99999, by omega⟩).val).toInt = (σ ⟨99999, by omega⟩).val :=
    Cert.KernelIdeal.Hand.toInt_word _ (by have := (σ ⟨99999, by omega⟩).isLt; omega)
  refine ⟨p (ix1 (σ ⟨99999, by omega⟩)), fun i => ?_,
    isKth_of_ordered (fun n => p (ix1 n)) σ hσ hord 100000 (by omega) (by omega)⟩
  refine at_read p _ (σ ⟨99999, by omega⟩) ?_ _
  rw [start_read (placed p) _ _ (by rw [hp, hi]; exact Int.natCast_nonneg _), hp, hi]

end Cert.ReferenceIdeal.Hand

end
-- ==== Proof.Kept.lean ====
module

public import proofs.«01_k».proof.Proof.Least
public import Idealize.ShloMosaic.Lib.ReduceAll
public import Idealize.ShloMosaic.Lib.IndicatorCount

/-!
# The rows the reference keeps

A row is kept when its probability is at most the threshold. The label of a row that is not kept is replaced, first by the
number for rows to leave out and then by class 0; its loss counts zero times.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

/-- Where a vector of words differs from the number for rows to leave out. -/
def isnt (w : IVec S1048576 32) : IVec S1048576 1 := cmpi .ne w (broadcastInDim S1048576 ![] bcast_S_S1048576 (constantI S_ 32 255#32))

theorem isnt_read (w : IVec S1048576 32) (n : Fin 1048576) : isnt w (ix1 n) = BitVec.ofBool (decide (w (ix1 n) ≠ 255#32)) := by
  unfold isnt
  pointwise
  by_cases h : w (ix1 n) = 255#32
  · simp [IntOp.cmpi, h]
  · simp only [IntOp.cmpi, bne_iff_ne.mpr h, decide_eq_true h]

/-- The rows whose probability is at most the larger of `t` and `c`. -/
def kept (p : FVec Ideal S1048576 .f32) (t c : FVec Ideal S_ .f32) : IVec S1048576 1 :=
  cmpf .ole p (broadcastInDim S1048576 ![] bcast_S_S1048576 (select (cmpf .ogt t c) t (id c)))

theorem kept_read (p : FVec Ideal S1048576 .f32) (t c : FVec Ideal S_ .f32) (q : EReal) (ht : ∀ i, t i = q) (hc : ∀ i, c i = cut)
    (n : Fin 1048576) : kept p t c (ix1 n) = BitVec.ofBool (decide (p (ix1 n) ≤ limit q)) := by
  unfold kept limit
  pointwise
  rw [ht, hc, show id c ix0 = cut from hc _]

/-- The labels, those of the rows that are not kept replaced. -/
def relabelled (T : IVec S1048576 32) (v k : IVec S1048576 1) : IVec S1048576 32 :=
  select (andi v k) (muli (muli T (extui 32 v natLt_1_32)) (extui 32 k natLt_1_32)) (broadcastInDim S1048576 ![] bcast_S_S1048576 (id (constantI S_ 32 255#32)))

theorem relabelled_read (T : IVec S1048576 32) (v k : IVec S1048576 1) (n : Fin 1048576) (hv : v (ix1 n) = 1#1) (p : Prop) [Decidable p]
    (hk : k (ix1 n) = BitVec.ofBool (decide p)) : relabelled T v k (ix1 n) = if p then T (ix1 n) else 255#32 := by
  unfold relabelled
  pointwise
  rw [hv, hk]
  by_cases h : p
  · simp only [h, decide_true, if_true]
    refine (if_pos (by decide)).trans ?_
    show T (ix1 n) * 1#32 * 1#32 = _
    rw [BitVec.mul_one, BitVec.mul_one]
  · simp only [h, decide_false, if_false]
    exact if_neg (by decide)

/-- The words of the rows kept, and zero elsewhere, as a column. -/
def safe (w : IVec S1048576 32) : IVec S1048576x1 32 :=
  broadcastInDim S1048576x1 ![0] bcast_S1048576_S1048576x1_0 (select (isnt w) w (broadcastInDim S1048576 ![] bcast_S_S1048576 (id (constantI S_ 32 0#32))))

/-- The columns to take, one to a row. -/
def columns (w : IVec S1048576x1 32) : IVec S1048576x1x1 32 :=
  shapeCast _ (select (cmpi .slt w (broadcastInDim S1048576x1 ![] bcast_S_S1048576x1 (constantI S_ 32 0#32)))
    (addi w (broadcastInDim S1048576x1 ![] bcast_S_S1048576x1 (constantI S_ 32 19#32))) w) shapeCasts_S1048576x1_S1048576x1x1

theorem safe_read (w : IVec S1048576 32) (n : Fin 1048576) : safe w (ix2 n 0) = if w (ix1 n) = 255#32 then 0#32 else w (ix1 n) := by
  unfold safe
  rw [column]
  pointwise
  rw [isnt_read]
  by_cases h : w (ix1 n) = 255#32
  · rw [if_pos h]
    exact if_neg fun h' => absurd h ((ofBool_one _).mp h')
  · rw [if_neg h]
    exact if_pos ((ofBool_one _).mpr h)

theorem columns_read (w : IVec S1048576x1 32) (n : Fin 1048576) (h : 0 ≤ (w (ix2 n 0)).toInt) : columns w (ix3 n 0 0) = w (ix2 n 0) := by
  unfold columns
  pointwise
  exact select_nonneg _ _ h

/-- The row numbers, as the indices of a vector. -/
def rowIdx : Fin 1048576 ≃ S1048576.Idx where
  toFun := ix1
  invFun := fun i => i 0
  left_inv := fun _ => rfl
  right_inv := fun i => funext fun a => by
    obtain rfl : a = 0 := Subsingleton.elim _ _
    rfl

/-- A sum over all rows, from zero. -/
theorem sum_rows (v : FVec Ideal S1048576 .f32) (o : FVec Ideal S_ .f32) (ho : ∀ i, o i = (0 : EReal)) (j : S_.Idx) :
    Host.reduceAdd v o reducesTo_S1048576_S_d0 h_S_ j = ∑ n, (v (ix1 n) : EReal) := by
  refine (Ideal.hostReduceAdd_total reducesTo_S1048576_S_d0 (fun b => b.elim0) v _ j).trans ?_
  rw [ho, zero_add]
  exact (Equiv.sum_comp rowIdx fun i => (v i : EReal)).symm

/-- The number a word stands for. -/
theorem sitofp_read (w : IVec S_ 32) (j : S_.Idx) : sitofp (F := Ideal) .f32 w j = (((w j).toInt : ℝ) : EReal) := rfl

/-- The number of rows whose bit is set, as a sum of ones. -/
theorem count_rows (b : IVec S1048576 1) (p : Fin 1048576 → EReal) (x : EReal) (hb : ∀ n, b (ix1 n) = BitVec.ofBool (decide (p n ≤ x))) (j : S_.Idx) :
    sitofp (F := Ideal) .f32 (Host.reduce IntOp.addi (extui 32 b natLt_1_32) (constantI S_ 32 0#32) reducesTo_S1048576_S_d0 h_S_) j
      = ∑ n, if p n ≤ x then (1 : EReal) else 0 := by
  have hcard : (Finset.univ.filter fun i : S1048576.Idx => b i = 1#1).card = upTo p x := by
    unfold upTo
    refine (Finset.card_bij (fun n _ => rowIdx n) (fun n hn => ?_) (fun _ _ _ _ h => rowIdx.injective h) fun i hi => ?_).symm
    · simp only [Finset.mem_filter, Finset.mem_univ, true_and] at hn ⊢
      exact (hb n).trans ((ofBool_one _).mpr hn)
    · simp only [Finset.mem_filter, Finset.mem_univ, true_and] at hi
      refine ⟨rowIdx.symm i, ?_, rowIdx.apply_symm_apply i⟩
      simp only [Finset.mem_filter, Finset.mem_univ, true_and]
      exact (ofBool_one _).mp ((hb _).symm.trans ((congrArg b (rowIdx.apply_symm_apply i)).trans hi))
  have hle : upTo p x ≤ 1048576 := by
    unfold upTo
    exact (Finset.card_le_univ _).trans (by simp)
  have hr : Host.reduce IntOp.addi (extui 32 b natLt_1_32) (constantI S_ 32 0#32) reducesTo_S1048576_S_d0 h_S_ j = BitVec.ofNat 32 (upTo p x) := by
    rw [Host.reduce_eq_fold, Finset.filter_true_of_mem fun i _ => Subsingleton.elim _ _, ← hcard]
    exact IndicatorCount.fold_addi_setWidth_eq_card b Finset.univ
  rw [upTo_sum]
  rw [sitofp_read, hr, Cert.KernelIdeal.Hand.toInt_word _ (by omega)]
  exact (congrArg Real.toEReal (Int.cast_natCast (upTo p x))).trans (EReal.coe_coe_eq_natCast _)

end Cert.ReferenceIdeal.Hand

end
-- ==== Proof.Reference.lean ====
module

public import proofs.«01_k».proof.Proof.Kept

/-!
# What the reference computes, in terms of its arguments

The mean of the losses of the rows whose probability is at most the threshold, as the kernel's.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

/-- Every row's entry at a column, or a filler where the column is out of range. -/
def along (S : FVec Ideal S1048576x19 .f32) (w : IVec S1048576x1x1 32) (f : FVec Ideal S_ .f32) : FVec Ideal S1048576 .f32 :=
  shapeCast _ (select (Host.reduce IntOp.andi (andi (cmpi .sge w (broadcastInDim S1048576x1x1 ![] bcast_S_S1048576x1x1 (constantI S_ 32 0#32)))
      (cmpi .sle w (broadcastInDim S1048576x1x1 ![0, 1, 2] bcast_S1x1x1_S1048576x1x1_0_1_2 (broadcastInDim S1x1x1 ![2] bcast_S1_S1x1x1_2 (constantI S1 32 18#32)))))
      (constantI S_ 1 1#1) reducesTo_S1048576x1x1_S1048576x1_d2 h_S_)
    (Host.gather gather_S1048576x19_S1048576x1x1_S1048576x1_n_1_0_0_1_2_11 S w)
    (broadcastInDim S1048576x1 ![] bcast_S_S1048576x1 f)) shapeCasts_S1048576x1_S1048576

/-- A word that stands for a class is in range. -/
theorem in_range (w : BitVec 32) (r : Fin 19) (h : w.toInt = r.val) : IntOp.andi (IntOp.cmpi .sge w 0#32) (IntOp.cmpi .sle w 18#32) = 1#1 := by
  have := r.isLt
  have h1 : (0#32).sle w = true := by rw [BitVec.sle, decide_eq_true_eq, h]; simp
  have h2 : w.sle 18#32 = true := by
    rw [BitVec.sle, decide_eq_true_eq, h, show (18#32).toInt = 18 from rfl]; omega
  simp [IntOp.cmpi, IntOp.andi, h1, h2]

theorem along_read (S : FVec Ideal S1048576x19 .f32) (w : IVec S1048576x1x1 32) (f : FVec Ideal S_ .f32) (r : Fin 1048576 → Fin 19)
    (hw : ∀ n, (w (ix3 n 0 0)).toInt = (r n).val) (n : Fin 1048576) : along S w f (ix1 n) = S (ix2 n (r n)) := by
  unfold along
  pointwise
  have hb : ∀ x : Fin 1, IntOp.andi (IntOp.cmpi .sge (w (ix3 n 0 x)) 0#32) (IntOp.cmpi .sle (w (ix3 n 0 x)) 18#32) = 1#1 := fun x => by
    obtain rfl : x = 0 := Subsingleton.elim _ _
    exact in_range _ _ (hw n)
  simp only [hb]
  rw [Finset.univ_unique, Finset.fold_singleton]
  exact (if_pos (by decide)).trans (take_along _ rfl rfl rfl rfl rfl rfl _ _ n (r n) (hw n))

/-- The reference's number from its parts. -/
def meanOf (S : FVec Ideal S1048576x19 .f32) (w : IVec S1048576 32) (f o one : FVec Ideal S_ .f32) : FVec Ideal S_ .f32 :=
  Host.divf (Host.reduceAdd (mulf (Host.negf (along S (columns (safe w)) f)) (uitofp .f32 (isnt w))) o reducesTo_S1048576_S_d0 h_S_)
    (maximumf (sitofp .f32 (Host.reduce IntOp.addi (extui 32 (isnt w) natLt_1_32) (constantI S_ 32 0#32) reducesTo_S1048576_S_d0 h_S_)) one)

/-- A set bit counts one, a clear one zero. -/
theorem uitofp_read (b : IVec S1048576 1) (n : Fin 1048576) (p : Prop) [Decidable p] (hb : b (ix1 n) = BitVec.ofBool (decide p)) :
    uitofp (F := Ideal) .f32 b (ix1 n) = if p then (1 : EReal) else 0 := by
  show (((b (ix1 n)).toNat : ℝ) : EReal) = _
  rw [hb]
  by_cases h : p <;> simp [h]

/-- A class's word is not the number for rows to leave out. -/
theorem word_class (w : BitVec 32) (h : w.toNat < 19) : w ≠ 255#32 ∧ w.toInt = (Fin.ofNat 19 w.toNat).val := by
  refine ⟨fun e => ?_, ?_⟩
  · rw [e] at h
    exact absurd h (by decide)
  · rw [BitVec.toInt_eq_toNat_of_lt (by omega)]
    exact congrArg Int.ofNat (Nat.mod_eq_of_lt h).symm

/-- The reference's number is the mean over the rows kept. -/
theorem meanOf_read (S : FVec Ideal S1048576x19 .f32) (T w : IVec S1048576 32) (f o one : FVec Ideal S_ .f32) (ho : ∀ i, o i = (0 : EReal))
    (h1 : ∀ i, one i = (1 : EReal)) (hT : ∀ n, (T (ix1 n)).toNat < 19) (p L : Fin 1048576 → EReal) (x : EReal)
    (hw : ∀ n, w (ix1 n) = if p n ≤ x then T (ix1 n) else 255#32) (hL : ∀ n, -(S (ix2 n (label T n)) : EReal) = L n) (j : S_.Idx) :
    meanOf S w f o one j = meanUpTo p L x := by
  have hb : ∀ n, isnt w (ix1 n) = BitVec.ofBool (decide (p n ≤ x)) := fun n => by
    rw [isnt_read, hw]
    by_cases h : p n ≤ x
    · simp [h, (word_class _ (hT n)).1]
    · simp [h]
  let r : Fin 1048576 → Fin 19 := fun n => if p n ≤ x then label T n else 0
  have hs : ∀ n, (safe w (ix2 n 0)).toInt = (r n).val := fun n => by
    rw [safe_read, hw]
    by_cases h : p n ≤ x
    · simp only [h, if_true, r, if_neg (word_class _ (hT n)).1]
      exact (word_class _ (hT n)).2
    · simp [h, r]
  have hr : ∀ n, (columns (safe w) (ix3 n 0 0)).toInt = (r n).val := fun n => by
    rw [columns_read _ _ (by rw [hs]; exact Int.natCast_nonneg _), hs]
  unfold meanOf meanUpTo
  refine congrArg₂ Ideal.div ((sum_rows _ o ho j).trans (Finset.sum_congr rfl fun n _ => ?_)) ?_
  · refine (congrArg₂ (fun a b : EReal => a * b) (congrArg (fun a : EReal => -a) (along_read S _ f r hr n)) (uitofp_read _ n _ (hb n))).trans ?_
    by_cases h : p n ≤ x
    · simp only [h, if_true, r, mul_one]
      exact hL n
    · simp only [h, if_false, mul_zero]
  · exact congrArg₂ max (count_rows _ p x hb j) (h1 j)

end Cert.ReferenceIdeal.Hand

end
-- ==== Proof.Result.lean ====
module

public import proofs.«01_k».proof.Proof.Reference

/-!
# The reference's result

The terms of the reference's run, read as the softmax, the choice of the rows and the mean.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

/-- A constant of no axes. -/
abbrev number (w : BitVec 32) : FVec Ideal S_ .f32 := constant S_ .f32 w

theorem low_read (i : S_.Idx) : number 0xFF800000#32 i = (⊥ : EReal) := (constant_read _ i).trans bits_low
theorem zero_read (i : S_.Idx) : number 0x00000000#32 i = (0 : EReal) := (constant_read _ i).trans Ideal.ofBits_zero_f32
theorem one_read (i : S_.Idx) : number 0x3F800000#32 i = (1 : EReal) := (constant_read _ i).trans Ideal.ofBits_one_f32
theorem cut_number (i : S_.Idx) : number 0x3F333333#32 i = cut := constant_read _ i

/-- The probabilities as the reference takes them. -/
def probs (A : FVec Ideal S1048576x19 .f32) (T : IVec S1048576 32) : FVec Ideal S1048576 .f32 :=
  picked (softmax (number 0xFF800000#32) (number 0x00000000#32) A) (number 0x3F800000#32) (isnt T) (muli T (extui 32 (isnt T) natLt_1_32))

theorem probs_read (A : FVec Ideal S1048576x19 .f32) (T : IVec S1048576 32) (hT : ∀ n, (T (ix1 n)).toNat < 19) (hR : ∀ n, RowOk (rowX A n))
    (n : Fin 1048576) : probs A T (ix1 n) = Cert.KernelIdeal.Hand.rowP A T n := by
  have hv : isnt T (ix1 n) = 1#1 := (isnt_read T n).trans ((ofBool_one _).mpr (word_class _ (hT n)).1)
  have hm : muli T (extui 32 (isnt T) natLt_1_32) (ix1 n) = T (ix1 n) := by
    show T (ix1 n) * BitVec.setWidth 32 (isnt T (ix1 n)) = _
    rw [hv]
    exact BitVec.mul_one _
  refine (picked_read _ _ _ _ n (label T n) hv ?_).trans (softmax_read _ _ low_read zero_read A n _ (hR n))
  rw [hm]
  exact (word_class _ (hT n)).2

/-- The labels after the choice of the rows. -/
def chosen (A : FVec Ideal S1048576x19 .f32) (T : IVec S1048576 32) : IVec S1048576 32 :=
  relabelled T (isnt T) (kept (probs A T) (least (probs A T)) (number 0x3F333333#32))

/-- The reference's number. -/
def meanValue (A : FVec Ideal S1048576x19 .f32) (T : IVec S1048576 32) : FVec Ideal S_ .f32 :=
  meanOf (logSoftmax (number 0xFF800000#32) (number 0x00000000#32) A) (chosen A T) (number 0x7FC00000#32) (number 0x00000000#32) (number 0x3F800000#32)

theorem number_read (A : FVec Ideal S1048576x19 .f32) (T : IVec S1048576 32) (hT : ∀ n, (T (ix1 n)).toNat < 19) (hR : ∀ n, RowOk (rowX A n))
    (q : EReal) (hq : ∀ i, least (probs A T) i = q) (j : S_.Idx) :
    meanValue A T j = meanUpTo (Cert.KernelIdeal.Hand.rowP A T) (Cert.KernelIdeal.Hand.rowL A T) (limit q) := by
  refine meanOf_read _ T _ _ _ _ zero_read one_read hT _ _ _ (fun n => ?_) (fun n => ?_) j
  · refine relabelled_read T _ _ n ((isnt_read T n).trans ((ofBool_one _).mpr (word_class _ (hT n)).1)) _ ?_
    rw [kept_read _ _ _ q hq cut_number, probs_read A T hT hR]
  · exact logSoftmax_read _ _ low_read zero_read A n _ (hR n)

variable (V0 : Valuation τ sig (Elt Ideal)) (A : FVec Ideal S1048576x19 .f32) (T : IVec S1048576 32)
  (hA : V0 (Proc.devRef .tc main_arg0) = A) (hB : V0 (Proc.devRef .tc main_arg1) = T)

include hA hB in
theorem v34_eq : res_main_v34 V0 = probs A T := by
  subst hA hB
  rfl

include hA hB in
theorem v44_eq : res_main_v44 V0 = least (probs A T) := by
  rw [← v34_eq V0 A T hA hB]
  rfl

include hA hB in
theorem v52_eq : res_main_v52 V0 = chosen A T := by
  unfold chosen
  rw [← v44_eq V0 A T hA hB, ← v34_eq V0 A T hA hB]
  subst hB
  rfl

include hA in
theorem logits_eq : subf (res_main_call4_v5 V0) (broadcastInDim S1048576x19 ![0, 1] bcast_S1048576x1_S1048576x19_0_1 (Host.log (broadcastInDim S1048576x1 ![0] bcast_S1048576_S1048576x1_0 (Host.reduceAdd (Host.exp (res_main_call4_v5 V0)) (constant S_ .f32 0x00000000#32) reducesTo_S1048576x19_S1048576_d1 h_S_))))
    = logSoftmax (number 0xFF800000#32) (number 0x00000000#32) A := by
  subst hA
  rfl

/-- The term of the run is the reference's number. -/
theorem run_term {S : FVec Ideal S1048576x19 .f32} (S' : FVec Ideal S1048576x19 .f32) (hS : S = S') (W : IVec S1048576 32) (hW : res_main_v52 V0 = W) :
    Host.divf (Host.reduceAdd (mulf (Host.negf (shapeCast _ (select (Host.reduce IntOp.andi (andi (cmpi .sge (res_main_call6_v5 V0) (broadcastInDim S1048576x1x1 ![] bcast_S_S1048576x1x1 (constantI S_ 32 0#32))) (cmpi .sle (res_main_call6_v5 V0) (broadcastInDim S1048576x1x1 ![0, 1, 2] bcast_S1x1x1_S1048576x1x1_0_1_2 (broadcastInDim S1x1x1 ![2] bcast_S1_S1x1x1_2 (constantI S1 32 18#32))))) (constantI S_ 1 1#1) reducesTo_S1048576x1x1_S1048576x1_d2 h_S_) (Host.gather gather_S1048576x19_S1048576x1x1_S1048576x1_n_1_0_0_1_2_11 S (res_main_call6_v5 V0)) (broadcastInDim S1048576x1 ![] bcast_S_S1048576x1 (constant S_ .f32 0x7FC00000#32))) shapeCasts_S1048576x1_S1048576)) (uitofp .f32 (res_main_v55 V0))) (constant S_ .f32 0x00000000#32) reducesTo_S1048576_S_d0 h_S_) (maximumf (sitofp .f32 (Host.reduce IntOp.addi (extui 32 (res_main_v55 V0) natLt_1_32) (constantI S_ 32 0#32) reducesTo_S1048576_S_d0 h_S_)) (constant S_ .f32 0x3F800000#32))
      = meanOf S' W (number 0x7FC00000#32) (number 0x00000000#32) (number 0x3F800000#32) := by
  subst hS hW
  rfl

end Cert.ReferenceIdeal.Hand

end
-- ==== Proof.Separated.lean ====
module

public import proofs.«01_k».proof.Proof.Result
public import proofs.«01_k».proof.Pre_separated

/-!
# What the precondition says

Every label is a class, every row's largest logit is finite, and where the 100000-th smallest probability exceeds the cut no
row's probability exceeds it by less than the gap.
-/

@[expose] public section

set_option maxRecDepth 16384

noncomputable section

namespace Cert.ReferenceIdeal.Hand

open Cert.ReferenceIdeal.Gen Cert.Hand Cert.ReferenceIdeal.Value
open Idealize.ShloMosaic Idealize.ShloMosaic.TcCoe
open scoped BigOperators

instance preFacts : Cert.Pre_separated.Facts where
  bcast_S_S1048576 := bcast_S_S1048576
  reducesTo_S1048576x19_S1048576_d1 := reducesTo_S1048576x19_S1048576_d1
  h_S_ := h_S_
  natLt_1_32 := natLt_1_32
  bcast_S1048576_S1048576x1_0 := bcast_S1048576_S1048576x1_0
  bcast_S1048576x1_S1048576x19_0_1 := bcast_S1048576x1_S1048576x19_0_1
  transposes_S1048576x19_S19x1048576_1_0 := transposes_S1048576x19_S19x1048576_1_0
  bcast_S1048576_S1x1048576_1 := bcast_S1048576_S1x1048576_1
  bcast_S1x1048576_S19x1048576_0_1 := bcast_S1x1048576_S19x1048576_0_1
  bcast_S_S19x1048576 := bcast_S_S19x1048576
  concatenates_S1048576x1_S1048576x1_S1048576x2_d1 := concatenates_S1048576x1_S1048576x1_S1048576x2_d1
  slices_S1048576_S1_99999 := slices_S1048576_S1_99999
  shapeCasts_S1_S_ := shapeCasts_S1_S_
  sliceFits_S1048576_S1 := sliceFits_S1048576_S1
  gather_S19x1048576_S1048576x2_S1048576_n_01_n_n_01_1_11_wf := gather_S19x1048576_S1048576x2_S1048576_n_01_n_n_01_1_11_wf

/-- The rows whose label is a class. -/
def classes (T : IVec S1048576 32) : IVec S1048576 1 :=
  andi (cmpi .sge T (broadcastInDim S1048576 ![] bcast_S_S1048576 (constantI S_ 32 0#32)))
    (cmpi .slt T (broadcastInDim S1048576 ![] bcast_S_S1048576 (constantI S_ 32 19#32)))

/-- The rows whose largest logit lies strictly between `a` and `b`. -/
def finites (A : FVec Ideal S1048576x19 .f32) (a b : FVec Ideal S_ .f32) : IVec S1048576 1 :=
  andi (cmpf .ogt (Host.reduce FloatOps.maximumf A a reducesTo_S1048576x19_S1048576_d1 h_S_) (broadcastInDim S1048576 ![] bcast_S_S1048576 a))
    (cmpf .olt (Host.reduce FloatOps.maximumf A a reducesTo_S1048576x19_S1048576_d1 h_S_) (broadcastInDim S1048576 ![] bcast_S_S1048576 b))

/-- The rows whose probability is up to `t` or at least `g` above it, all of them when `t` is up to `c`. -/
def apart (p : FVec Ideal S1048576 .f32) (t c g : FVec Ideal S_ .f32) : IVec S1048576 1 :=
  ori (ori (broadcastInDim S1048576 ![] bcast_S_S1048576 (cmpf .ole t c)) (cmpf .ole p (broadcastInDim S1048576 ![] bcast_S_S1048576 t)))
    (cmpf .oge p (broadcastInDim S1048576 ![] bcast_S_S1048576 (addf t g)))

variable (A : FVec Ideal S1048576x19 .f32) (T : IVec S1048576 32)

theorem pre_eq : Cert.Pre_separated.fn (F := Ideal) A T = andi (andi (classes T) (finites A (number 0xFF800000#32) (number 0x7F800000#32)))
    (apart (probs A T) (least (probs A T)) (number 0x3F333333#32) (number 0x33800000#32)) := rfl

theorem and_bits (a b : BitVec 1) : IntOp.andi a b = 1#1 ↔ a = 1#1 ∧ b = 1#1 := by
  revert a b; decide

theorem or_bits (a b : BitVec 1) : IntOp.ori a b = 1#1 ↔ a = 1#1 ∨ b = 1#1 := by
  revert a b; decide

theorem classes_read (n : Fin 1048576) (h : classes T (ix1 n) = 1#1) : (T (ix1 n)).toNat < 19 := by
  unfold classes at h
  pointwise at h
  rw [and_bits] at h
  generalize T (ix1 n) = w at h
  have bit : ∀ b : Bool, BitVec.ofBool b = 1#1 → b = true := by decide
  have h1 : (0#32).sle w = true := bit _ h.1
  have h2 : w.slt 19#32 = true := bit _ h.2
  rw [BitVec.sle, decide_eq_true_eq, BitVec.toInt_zero] at h1
  rw [BitVec.slt, decide_eq_true_eq, show (19#32).toInt = 19 from rfl] at h2
  have e := BitVec.toInt_eq_toNat_cond w
  have := w.isLt
  split at e <;> omega

theorem bits_high : Ideal.ofBits .f32 0x7F800000#32 = ⊤ := by simp [Ideal.ofBits, Ideal.ieee]

/-- A vector strictly between two numbers. -/
theorem between_read (v : FVec Ideal S1048576 .f32) (a b : FVec Ideal S_ .f32) (n : Fin 1048576)
    (h : andi (cmpf .ogt v (broadcastInDim S1048576 ![] bcast_S_S1048576 a)) (cmpf .olt v (broadcastInDim S1048576 ![] bcast_S_S1048576 b)) (ix1 n) = 1#1) :
    (a ix0 : EReal) < v (ix1 n) ∧ (v (ix1 n) : EReal) < b ix0 := by
  pointwise at h
  rw [and_bits, ofBool_one, ofBool_one] at h
  exact h

theorem finites_read (a b : FVec Ideal S_ .f32) (ha : ∀ i, a i = (⊥ : EReal)) (hb : ∀ i, b i = (⊤ : EReal)) (n : Fin 1048576)
    (h : finites A a b (ix1 n) = 1#1) : RowOk (rowX A n) := by
  have h' := between_read _ a b n h
  rw [row_top A a ha n, ha, hb] at h'
  exact rowOk_of_top _ h'.1 h'.2

theorem apart_read (p : FVec Ideal S1048576 .f32) (t c g : FVec Ideal S_ .f32) (q : EReal) (ht : ∀ i, t i = q) (hc : ∀ i, c i = cut)
    (hg : ∀ i, g i = gap) (n : Fin 1048576) (h : apart p t c g (ix1 n) = 1#1) : q ≤ cut ∨ p (ix1 n) ≤ q ∨ q + gap ≤ p (ix1 n) := by
  unfold apart at h
  pointwise at h
  rw [or_bits, or_bits, ofBool_one, ofBool_one, ofBool_one, ht, hc, hg, or_assoc] at h
  exact h

/-- The precondition, in terms of the rows. -/
theorem separated_rows (h : Cert.Pre_separated.fn (F := Ideal) A T = fun _ => 1#1) :
    (∀ n, (T (ix1 n)).toNat < 19) ∧ (∀ n, RowOk (rowX A n)) ∧ ∃ q, (∀ i, least (probs A T) i = q) ∧
      IsKth 100000 (Cert.KernelIdeal.Hand.rowP A T) q ∧
      (q ≤ cut ∨ ∀ n, Cert.KernelIdeal.Hand.rowP A T n ≤ q ∨ q + gap ≤ Cert.KernelIdeal.Hand.rowP A T n) := by
  have hn : ∀ n : Fin 1048576, (classes T (ix1 n) = 1#1 ∧ finites A (number 0xFF800000#32) (number 0x7F800000#32) (ix1 n) = 1#1) ∧
      apart (probs A T) (least (probs A T)) (number 0x3F333333#32) (number 0x33800000#32) (ix1 n) = 1#1 := fun n => by
    have e := congrFun ((pre_eq A T).symm.trans h) (ix1 n)
    exact ((and_bits _ _).mp e).imp_left (and_bits _ _).mp
  have hT : ∀ n, (T (ix1 n)).toNat < 19 := fun n => classes_read T n (hn n).1.1
  have hR : ∀ n, RowOk (rowX A n) := fun n =>
    finites_read A _ _ low_read (fun i => (constant_read _ i).trans bits_high) n (hn n).1.2
  obtain ⟨q, hq, hk⟩ := least_read (probs A T)
  have hp : (fun n => probs A T (ix1 n)) = Cert.KernelIdeal.Hand.rowP A T := funext fun n => probs_read A T hT hR n
  rw [hp] at hk
  refine ⟨hT, hR, q, hq, hk, or_iff_not_imp_left.mpr fun hc n => ?_⟩
  have ha := (apart_read _ _ _ _ q hq cut_number (fun i => constant_read _ i) n (hn n).2).resolve_left hc
  rwa [probs_read A T hT hR n] at ha

end Cert.ReferenceIdeal.Hand

end
-- ==== Proof.Algebraic.lean ====
module

public import proofs.«01_k».proof.Defs
public import proofs.«01_k».proof.Proof.Separated
public import proofs.«01_k».proof.Proof.Frames

/-!
# The value claim

Under the precondition the kernel's run and the reference's run end with one number: the mean of the losses of the rows
whose probability is at most the threshold.
-/

@[expose] public section

set_option maxRecDepth 16384

noncomputable section

namespace Cert.Hand

open Idealize.ShloMosaic Idealize.SL.Sem Idealize.ShloMosaic.TcCoe
open Cert.ReferenceIdeal.Hand

/-- The reference's run ends at its number. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v68)
          = meanValue (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans
    (run_term _ _ (logits_eq _ _ rfl) _ (v52_eq _ _ _ rfl rfl)), (h c).2⟩) (Cert.ReferenceIdeal.Value.run (F := Ideal) m g)

/-- The kernel's number is the reference's. -/
theorem same_number (m : (ℓ : Loc Cert.KernelIdeal.nD Cert.KernelIdeal.τ Cert.KernelIdeal.sig) → Buf (Elt Ideal) ℓ) (c : Dev Cert.KernelIdeal.nD)
    (A : FVec Ideal Cert.KernelIdeal.S1048576x19 .f32) (T : IVec Cert.KernelIdeal.S1048576 32)
    (hA : m ((c.tc : Thread Cert.KernelIdeal.nD Cert.KernelIdeal.τ).loc Cert.KernelIdeal.main_arg0) = A)
    (hB : m ((c.tc : Thread Cert.KernelIdeal.nD Cert.KernelIdeal.τ).loc Cert.KernelIdeal.main_arg1) = T)
    (h : Cert.Pre_separated.fn (F := Ideal) A T = fun _ => 1#1) :
    shapeCast Cert.KernelIdeal.S_ (Cert.KernelIdeal.Hand.result m c) Cert.KernelIdeal.Gen.shapeCasts_S1x1_S_ = meanValue A T := by
  obtain ⟨hT, hR, q, hq, hk, hs⟩ := separated_rows A T h
  funext j
  exact (Cert.KernelIdeal.Hand.result_mean m c A T hA hB hT hR q hk hs _).trans (number_read A T hT hR q hq j).symm

theorem algebraic : algebraic_KernelIdeal_ReferenceIdeal_pre_separated (hKernelIdeal := Cert.KernelIdeal.Gen.facts)
    (hReferenceIdeal := Cert.ReferenceIdeal.Gen.facts) (hPre_separated := preFacts) := by
  intro m g m' g' hpre hargs
  refine ⟨fun c => shapeCast Cert.KernelIdeal.S_ (Cert.KernelIdeal.Hand.result m c) Cert.KernelIdeal.Gen.shapeCasts_S1x1_S_,
    (θ_run Cert.KernelIdeal.defs _ _).mono (fun _ h c => ⟨(h.1 c).2.2, (h.1 c).1, (h.1 c).2.1⟩) (Cert.KernelIdeal.Hand.run (F := Ideal) m g decides),
    (θ_run Cert.ReferenceIdeal.defs _ _).mono (fun _ h c => ⟨(h c).1.trans ?_, (h c).2⟩) (reference_run m' g')⟩
  rw [(hargs c).1, (hargs c).2]
  exact (same_number m c _ _ rfl rfl (hpre c)).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

-- The claims about Kernel, KernelIdeal, ReferenceIdeal also say that every semaphore counter ends at zero; the proof shows that too.

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ReferenceIdeal.Hand.preFacts,
  fun m g _ => Cert.Kernel.Hand.run m g, fun m g _ => Cert.Hand.ideal_frame m g, fun m g _ => Cert.Hand.ideal_frame m g,
  fun m g _ => Cert.Hand.reference_frame m g, fun m g _ => Cert.Hand.reference_frame m g, trivial, Cert.Hand.algebraic⟩

end Cert.Proof

end
